-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_targets_in_range [hPre_finite_and_targets_in_range : Cert.Pre_finite_and_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_targets_in_range [hPre_finite_and_targets_in_range : Cert.Pre_finite_and_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_and_targets_in_range [hKernelIdeal : Cert.KernelIdeal.Facts] [hPre_finite_and_targets_in_range : Cert.Pre_finite_and_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_and_targets_in_range [hReferenceIdeal : Cert.ReferenceIdeal.Facts] [hPre_finite_and_targets_in_range : Cert.Pre_finite_and_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_and_targets_in_range [hKernelIdeal : Cert.KernelIdeal.Facts] [hReferenceIdeal : Cert.ReferenceIdeal.Facts] [hPre_finite_and_targets_in_range : Cert.Pre_finite_and_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_and_targets_in_range : Cert.Pre_finite_and_targets_in_range.Facts),
    quiescent_Kernel (hKernel := hKernel)
    ∧ quiescent_KernelIdeal (hKernelIdeal := hKernelIdeal)
    ∧ quiescent_KernelIdeal_pre_finite_and_targets_in_range (hKernelIdeal := hKernelIdeal) (hPre_finite_and_targets_in_range := hPre_finite_and_targets_in_range)
    ∧ quiescent_ReferenceIdeal (hReferenceIdeal := hReferenceIdeal)
    ∧ quiescent_ReferenceIdeal_pre_finite_and_targets_in_range (hReferenceIdeal := hReferenceIdeal) (hPre_finite_and_targets_in_range := hPre_finite_and_targets_in_range)
    ∧ preserves_Kernel_KernelIdeal
    ∧ algebraic_KernelIdeal_ReferenceIdeal_pre_finite_and_targets_in_range (hKernelIdeal := hKernelIdeal) (hReferenceIdeal := hReferenceIdeal) (hPre_finite_and_targets_in_range := hPre_finite_and_targets_in_range)
-- ==== Pre_finite_and_targets_in_range.lean ====
abbrev S4x12x10000x32 : Shape := ⟨4, ![4, 12, 10000, 32]⟩
abbrev S2x320000 : Shape := ⟨2, ![2, 320000]⟩
abbrev S320000 : Shape := ⟨1, ![320000]⟩
abbrev S64x32x3x1 : Shape := ⟨4, ![64, 32, 3, 1]⟩
abbrev S64 : Shape := ⟨1, ![64]⟩
abbrev S64x64 : Shape := ⟨2, ![64, 64]⟩
abbrev S1x320000 : Shape := ⟨2, ![1, 320000]⟩
abbrev S_ : Shape := ⟨0, ![]⟩
abbrev S4x1x10000x32 : Shape := ⟨4, ![4, 1, 10000, 32]⟩
abbrev S4x10000x32 : Shape := ⟨3, ![4, 10000, 32]⟩
abbrev S1 : Shape := ⟨1, ![1]⟩
abbrev S8 : Shape := ⟨1, ![8]⟩

class Facts : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_
  h_S_ : 0 < S_.numel
  slices_S4x12x10000x32_S4x1x10000x32_0_11_0_0 : S4x12x10000x32.Slices ![0, 11, 0, 0] S4x1x10000x32
  shapeCasts_S4x1x10000x32_S4x10000x32 : S4x1x10000x32.ShapeCasts S4x10000x32
  bcast_S_S4x10000x32 : S_.BroadcastsInDim S4x10000x32 (![] : Fin 0 → Fin S4x10000x32.rank)
  reducesTo_S4x10000x32_S_d0_1_2 : S4x10000x32.ReducesTo [0, 1, 2] S_
  bcast_S_S64x32x3x1 : S_.BroadcastsInDim S64x32x3x1 (![] : Fin 0 → Fin S64x32x3x1.rank)
  reducesTo_S64x32x3x1_S_d0_1_2_3 : S64x32x3x1.ReducesTo [0, 1, 2, 3] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0
  reducesTo_S8_S_d0 : S8.ReducesTo [0] S_

variable [Facts]

def fn_part2 {F : FTy → Type} [FloatOps F] (main_arg9 : FVec F S64x64 .f32) (main_v7 : IVec S_ 1) (main_v13 : IVec S_ 1) (main_v17 : IVec S_ 1) (main_v21 : IVec S_ 1) (main_v25 : IVec S_ 1) (main_v29 : IVec S_ 1) (main_v32 : IVec S64x64 1) (main_c_12 : IVec S_ 1) : IVec S_ 1 :=
  let main_v33 : IVec S_ 1 := (fun x v => Host.reduce IntOp.andi x v reducesTo_S64x64_S_d0_1 h_S_) main_v32 main_c_12
  let main_v34 : FVec F S64x64 .f32 := Host.absf main_arg9
  let main_cst_13 : FVec F S_ .f32 := constant S_ .f32 0x7F800000#32
  let main_v35 : FVec F S64x64 .f32 := broadcastInDim S64x64 ![] bcast_S_S64x64 main_cst_13
  let main_v36 : IVec S64x64 1 := cmpf .olt main_v34 main_v35
  let main_c_14 : IVec S_ 1 := constantI S_ 1 1#1
  let main_v37 : IVec S_ 1 := (fun x v => Host.reduce IntOp.andi x v reducesTo_S64x64_S_d0_1 h_S_) main_v36 main_c_14
  let main_v38 : IVec S1 1 := broadcastInDim S1 ![] bcast_S_S1 main_v7
  let main_v39 : IVec S1 1 := broadcastInDim S1 ![] bcast_S_S1 main_v13
  let main_v40 : IVec S1 1 := broadcastInDim S1 ![] bcast_S_S1 main_v17
  let main_v41 : IVec S1 1 := broadcastInDim S1 ![] bcast_S_S1 main_v21
  let main_v42 : IVec S1 1 := broadcastInDim S1 ![] bcast_S_S1 main_v25
  let main_v43 : IVec S1 1 := broadcastInDim S1 ![] bcast_S_S1 main_v29
  let main_v44 : IVec S1 1 := broadcastInDim S1 ![] bcast_S_S1 main_v33
  let main_v45 : IVec S1 1 := broadcastInDim S1 ![] bcast_S_S1 main_v37
  let main_v46 : IVec S8 1 := concatenate S8 0 [⟨S1, main_v38⟩, ⟨S1, main_v39⟩, ⟨S1, main_v40⟩, ⟨S1, main_v41⟩, ⟨S1, main_v42⟩, ⟨S1, main_v43⟩, ⟨S1, main_v44⟩, ⟨S1, main_v45⟩] concatenates_S1_S1_S1_S1_S1_S1_S1_S1_S8_d0
  let main_c_15 : IVec S_ 1 := constantI S_ 1 1#1
  let main_v47 : IVec S_ 1 := (fun x v => Host.reduce IntOp.andi x v reducesTo_S8_S_d0 h_S_) main_v46 main_c_15
  main_v47

def fn_part1 {F : FTy → Type} [FloatOps F] (main_arg4 : FVec F S64 .f32) (main_arg5 : FVec F S64x64 .f32) (main_arg6 : FVec F S64 .f32) (main_arg7 : FVec F S64x64 .f32) (main_arg9 : FVec F S64x64 .f32) (main_v7 : IVec S_ 1) (main_v13 : IVec S_ 1) (main_v16 : IVec S64x32x3x1 1) (main_c_4 : IVec S_ 1) : IVec S_ 1 :=
  let main_v17 : IVec S_ 1 := (fun x v => Host.reduce IntOp.andi x v reducesTo_S64x32x3x1_S_d0_1_2_3 h_S_) main_v16 main_c_4
  let main_v18 : FVec F S64 .f32 := Host.absf main_arg4
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_c_6 : IVec S_ 1 := constantI S_ 1 1#1
  let main_v21 : IVec S_ 1 := (fun x v => Host.reduce IntOp.andi x v reducesTo_S64_S_d0 h_S_) main_v20 main_c_6
  let main_v22 : FVec F S64x64 .f32 := Host.absf main_arg5
  let main_cst_7 : FVec F S_ .f32 := constant S_ .f32 0x7F800000#32
  let main_v23 : FVec F S64x64 .f32 := broadcastInDim S64x64 ![] bcast_S_S64x64 main_cst_7
  let main_v24 : IVec S64x64 1 := cmpf .olt main_v22 main_v23
  let main_c_8 : IVec S_ 1 := constantI S_ 1 1#1
  let main_v25 : IVec S_ 1 := (fun x v => Host.reduce IntOp.andi x v reducesTo_S64x64_S_d0_1 h_S_) main_v24 main_c_8
  let main_v26 : FVec F S64 .f32 := Host.absf main_arg6
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : FVec F S64x64 .f32 := Host.absf main_arg7
  let main_cst_11 : FVec F S_ .f32 := constant S_ .f32 0x7F800000#32
  let main_v31 : FVec F S64x64 .f32 := broadcastInDim S64x64 ![] bcast_S_S64x64 main_cst_11
  let main_v32 : IVec S64x64 1 := cmpf .olt main_v30 main_v31
  let main_c_12 : IVec S_ 1 := constantI S_ 1 1#1
  fn_part2 (F := F) main_arg9 main_v7 main_v13 main_v17 main_v21 main_v25 main_v29 main_v32 main_c_12

def fn {F : FTy → Type} [FloatOps F] (main_arg0 : FVec F S4x12x10000x32 .f32) (main_arg1 : IVec S2x320000 32) (main_arg2 : FVec F S320000 .f32) (main_arg3 : FVec F S64x32x3x1 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : IVec S1x320000 32 := (extractStridedSlice S1x320000 ![1, 0] · slices_S2x320000_S1x320000_1_0) main_arg1
  let main_v1 : IVec S320000 32 := shapeCast S320000 main_v0 shapeCasts_S1x320000_S320000
  let main_c : IVec S_ 32 := constantI S_ 32 0#32
  let main_v2 : IVec S320000 32 := broadcastInDim S320000 ![] bcast_S_S320000 main_c
  let main_v3 : IVec S320000 1 := cmpi .sge main_v1 main_v2
  let main_c_0 : IVec S_ 32 := constantI S_ 32 10000#32
  let main_v4 : IVec S320000 32 := broadcastInDim S320000 ![] bcast_S_S320000 main_c_0
  let main_v5 : IVec S320000 1 := cmpi .slt main_v1 main_v4
  let main_v6 : IVec S320000 1 := andi main_v3 main_v5
  let main_c_1 : IVec S_ 1 := constantI S_ 1 1#1
  let main_v7 : IVec S_ 1 := (fun x v => Host.reduce IntOp.andi x v reducesTo_S320000_S_d0 h_S_) main_v6 main_c_1
  let main_v8 : FVec F S4x1x10000x32 .f32 := (extractStridedSlice S4x1x10000x32 ![0, 11, 0, 0] · slices_S4x12x10000x32_S4x1x10000x32_0_11_0_0) main_arg0
  let main_v9 : FVec F S4x10000x32 .f32 := shapeCast S4x10000x32 main_v8 shapeCasts_S4x1x10000x32_S4x10000x32
  let main_v10 : FVec F S4x10000x32 .f32 := Host.absf main_v9
  let main_cst : FVec F S_ .f32 := constant S_ .f32 0x7F800000#32
  let main_v11 : FVec F S4x10000x32 .f32 := broadcastInDim S4x10000x32 ![] bcast_S_S4x10000x32 main_cst
  let main_v12 : IVec S4x10000x32 1 := cmpf .olt main_v10 main_v11
  let main_c_2 : IVec S_ 1 := constantI S_ 1 1#1
  let main_v13 : IVec S_ 1 := (fun x v => Host.reduce IntOp.andi x v reducesTo_S4x10000x32_S_d0_1_2 h_S_) main_v12 main_c_2
  let main_v14 : FVec F S64x32x3x1 .f32 := Host.absf main_arg3
  let main_cst_3 : FVec F S_ .f32 := constant S_ .f32 0x7F800000#32
  let main_v15 : FVec F S64x32x3x1 .f32 := broadcastInDim S64x32x3x1 ![] bcast_S_S64x32x3x1 main_cst_3
  let main_v16 : IVec S64x32x3x1 1 := cmpf .olt main_v14 main_v15
  let main_c_4 : IVec S_ 1 := constantI S_ 1 1#1
  fn_part1 (F := F) main_arg4 main_arg5 main_arg6 main_arg7 main_arg9 main_v7 main_v13 main_v16 main_c_4
-- ==== Kernel.lean ====
abbrev S4x12x10000x32 : Shape := ⟨4, ![4, 12, 10000, 32]⟩
abbrev S2x320000 : Shape := ⟨2, ![2, 320000]⟩
abbrev S320000 : Shape := ⟨1, ![320000]⟩
abbrev S64x32x3x1 : Shape := ⟨4, ![64, 32, 3, 1]⟩
abbrev S64 : Shape := ⟨1, ![64]⟩
abbrev S64x64 : Shape := ⟨2, ![64, 64]⟩
abbrev S64x32x1x1 : Shape := ⟨4, ![64, 32, 1, 1]⟩
abbrev S64x32 : Shape := ⟨2, ![64, 32]⟩
abbrev S32x64 : Shape := ⟨2, ![32, 64]⟩
abbrev S1x64 : Shape := ⟨2, ![1, 64]⟩
abbrev S4x1x10000x32 : Shape := ⟨4, ![4, 1, 10000, 32]⟩
abbrev S4x10000x32 : Shape := ⟨3, ![4, 10000, 32]⟩
abbrev S40000x32 : Shape := ⟨2, ![40000, 32]⟩
abbrev S40000x64 : Shape := ⟨2, ![40000, 64]⟩
abbrev S10000x32 : Shape := ⟨2, ![10000, 32]⟩
abbrev S10000x64 : Shape := ⟨2, ![10000, 64]⟩

abbrev nBuf : Space → Nat
  | .hbm => 29
  | .vmem => 13
  | .smem => 0
  | _ => 0

abbrev bufTy : (tb : Table) → Fin (tcTables nBuf tb) → BufTy
  | .hbm, ⟨0, _⟩ => ⟨S4x12x10000x32, .f32⟩
  | .hbm, ⟨1, _⟩ => ⟨S2x320000, .i32⟩
  | .hbm, ⟨2, _⟩ => ⟨S320000, .f32⟩
  | .hbm, ⟨3, _⟩ => ⟨S64x32x3x1, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x32x1x1, .f32⟩
  | .hbm, ⟨12, _⟩ => ⟨S64x32, .f32⟩
  | .hbm, ⟨13, _⟩ => ⟨S32x64, .f32⟩
  | .hbm, ⟨14, _⟩ => ⟨S64x32x1x1, .f32⟩
  | .hbm, ⟨15, _⟩ => ⟨S64x32, .f32⟩
  | .hbm, ⟨16, _⟩ => ⟨S32x64, .f32⟩
  | .hbm, ⟨17, _⟩ => ⟨S64x32x1x1, .f32⟩
  | .hbm, ⟨18, _⟩ => ⟨S64x32, .f32⟩
  | .hbm, ⟨19, _⟩ => ⟨S32x64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S4x1x10000x32, .f32⟩
  | .hbm, ⟨24, _⟩ => ⟨S4x10000x32, .f32⟩
  | .hbm, ⟨25, _⟩ => ⟨S40000x32, .f32⟩
  | .hbm, ⟨26, _⟩ => ⟨S1x64, .f32⟩
  | .hbm, ⟨27, _⟩ => ⟨S1x64, .f32⟩
  | .hbm, ⟨28, _⟩ => ⟨S40000x64, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | _, _ => ⟨S4x12x10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x12x10000x32 : Shape := ⟨4, ![4, 12, 10000, 32]⟩
abbrev S2x320000 : Shape := ⟨2, ![2, 320000]⟩
abbrev S320000 : Shape := ⟨1, ![320000]⟩
abbrev S64x32x3x1 : Shape := ⟨4, ![64, 32, 3, 1]⟩
abbrev S64 : Shape := ⟨1, ![64]⟩
abbrev S64x64 : Shape := ⟨2, ![64, 64]⟩
abbrev S_ : Shape := ⟨0, ![]⟩
abbrev S4x12x10002x32 : Shape := ⟨4, ![4, 12, 10002, 32]⟩
abbrev S64x32x1x1 : Shape := ⟨4, ![64, 32, 1, 1]⟩
abbrev S64x32 : Shape := ⟨2, ![64, 32]⟩
abbrev S32x64 : Shape := ⟨2, ![32, 64]⟩
abbrev S4x12x10000x64 : Shape := ⟨4, ![4, 12, 10000, 64]⟩
abbrev S1x1x1x64 : Shape := ⟨4, ![1, 1, 1, 64]⟩
abbrev S480000x64 : Shape := ⟨2, ![480000, 64]⟩
abbrev S1x320000 : Shape := ⟨2, ![1, 320000]⟩
abbrev S480000 : Shape := ⟨1, ![480000]⟩
abbrev S800000 : Shape := ⟨1, ![800000]⟩
abbrev S800000x1 : Shape := ⟨2, ![800000, 1]⟩
abbrev S800000x64 : Shape := ⟨2, ![800000, 64]⟩
abbrev S1x64 : Shape := ⟨2, ![1, 64]⟩
abbrev S4x1x10000x64 : Shape := ⟨4, ![4, 1, 10000, 64]⟩
abbrev S4x10000x64 : Shape := ⟨3, ![4, 10000, 64]⟩
abbrev S40000x64 : Shape := ⟨2, ![40000, 64]⟩

abbrev nBuf : Space → Nat
  | .hbm => 182
  | .vmem => 0
  | .smem => 0
  | _ => 0

abbrev hbmTy0_0 (i : Nat) : BufTy := match i % 128 with
  | 0 => ⟨S4x12x10000x32, .f32⟩
  | 1 => ⟨S2x320000, .i32⟩
  | 2 => ⟨S320000, .f32⟩
  | 3 => ⟨S64x32x3x1, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S_, .i32⟩
  | 12 => ⟨S_, .f32⟩
  | 13 => ⟨S4x12x10002x32, .f32⟩
  | 14 => ⟨S4x12x10000x32, .f32⟩
  | 15 => ⟨S64x32x1x1, .f32⟩
  | 16 => ⟨S64x32, .f32⟩
  | 17 => ⟨S32x64, .f32⟩
  | 18 => ⟨S4x12x10000x64, .f32⟩
  | 19 => ⟨S_, .f32⟩
  | 20 => ⟨S4x12x10000x64, .f32⟩
  | 21 => ⟨S4x12x10000x64, .f32⟩
  | 22 => ⟨S4x12x10000x32, .f32⟩
  | 23 => ⟨S64x32x1x1, .f32⟩
  | 24 => ⟨S64x32, .f32⟩
  | 25 => ⟨S32x64, .f32⟩
  | 26 => ⟨S4x12x10000x64, .f32⟩
  | 27 => ⟨S4x12x10000x64, .f32⟩
  | 28 => ⟨S4x12x10000x32, .f32⟩
  | 29 => ⟨S64x32x1x1, .f32⟩
  | 30 => ⟨S64x32, .f32⟩
  | 31 => ⟨S32x64, .f32⟩
  | 32 => ⟨S4x12x10000x64, .f32⟩
  | 33 => ⟨S4x12x10000x64, .f32⟩
  | 34 => ⟨S1x1x1x64, .f32⟩
  | 35 => ⟨S4x12x10000x64, .f32⟩
  | 36 => ⟨S4x12x10000x64, .f32⟩
  | 37 => ⟨S_, .f32⟩
  | 38 => ⟨S4x12x10000x64, .f32⟩
  | 39 => ⟨S4x12x10000x64, .f32⟩
  | 40 => ⟨S480000x64, .f32⟩
  | 41 => ⟨S1x320000, .i32⟩
  | 42 => ⟨S320000, .i32⟩
  | 43 => ⟨S1x320000, .i32⟩
  | 44 => ⟨S320000, .i32⟩
  | 45 => ⟨S480000, .i32⟩
  | 46 => ⟨S800000, .i32⟩
  | 47 => ⟨S800000, .i32⟩
  | 48 => ⟨S_, .f32⟩
  | 49 => ⟨S480000, .f32⟩
  | 50 => ⟨S800000, .f32⟩
  | 51 => ⟨S_, .f32⟩
  | 52 => ⟨S480000, .f32⟩
  | 53 => ⟨S800000x1, .i32⟩
  | 54 => ⟨S480000, .f32⟩
  | 55 => ⟨S_, .f32⟩
  | 56 => ⟨S480000, .f32⟩
  | 57 => ⟨S480000, .i1⟩
  | 58 => ⟨S_, .f32⟩
  | 59 => ⟨S480000, .f32⟩
  | 60 => ⟨S480000, .f32⟩
  | 61 => ⟨S480000, .f32⟩
  | 62 => ⟨S_, .f32⟩
  | 63 => ⟨S_, .f32⟩
  | 64 => ⟨S480000, .f32⟩
  | 65 => ⟨S480000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S800000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S480000x64, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x64, .f32⟩
  | 98 => ⟨S800000x64, .f32⟩
  | 99 => ⟨S_, .f32⟩
  | 100 => ⟨S480000x64, .f32⟩
  | 101 => ⟨S800000x1, .i32⟩
  | 102 => ⟨S480000x64, .f32⟩
  | 103 => ⟨S1x64, .f32⟩
  | 104 => ⟨S480000x64, .f32⟩
  | 105 => ⟨S480000x64, .f32⟩
  | 106 => ⟨S_, .f32⟩
  | 107 => ⟨S480000x64, .f32⟩
  | 108 => ⟨S480000x64, .f32⟩
  | 109 => ⟨S1x320000, .i32⟩
  | 110 => ⟨S320000, .i32⟩
  | 111 => ⟨S1x320000, .i32⟩
  | 112 => ⟨S320000, .i32⟩
  | 113 => ⟨S480000, .i32⟩
  | 114 => ⟨S800000, .i32⟩
  | 115 => ⟨S800000, .i32⟩
  | 116 => ⟨S_, .f32⟩
  | 117 => ⟨S480000, .f32⟩
  | 118 => ⟨S800000, .f32⟩
  | 119 => ⟨S_, .f32⟩
  | 120 => ⟨S480000, .f32⟩
  | 121 => ⟨S800000x1, .i32⟩
  | 122 => ⟨S480000, .f32⟩
  | 123 => ⟨S_, .f32⟩
  | 124 => ⟨S480000, .f32⟩
  | 125 => ⟨S480000, .i1⟩
  | 126 => ⟨S_, .f32⟩
  | 127 => ⟨S480000, .f32⟩
  | _ => ⟨S4x12x10000x32, .f32⟩

abbrev hbmTy0_1 (i : Nat) : BufTy := match i % 128 with
  | 0 => ⟨S480000, .f32⟩
  | 1 => ⟨S480000, .f32⟩
  | 2 => ⟨S_, .f32⟩
  | 3 => ⟨S_, .f32⟩
  | 4 => ⟨S480000, .f32⟩
  | 5 => ⟨S480000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000, .f32⟩
  | 15 => ⟨S800000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S800000, .f32⟩
  | 26 => ⟨S480000x64, .f32⟩
  | 27 => ⟨S800000x1, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S800000x64, .f32⟩
  | 38 => ⟨S800000x64, .f32⟩
  | 39 => ⟨S_, .f32⟩
  | 40 => ⟨S480000x64, .f32⟩
  | 41 => ⟨S800000x1, .i32⟩
  | 42 => ⟨S480000x64, .f32⟩
  | 43 => ⟨S1x64, .f32⟩
  | 44 => ⟨S480000x64, .f32⟩
  | 45 => ⟨S480000x64, .f32⟩
  | 46 => ⟨S4x12x10000x64, .f32⟩
  | 47 => ⟨S4x12x10000x64, .f32⟩
  | 48 => ⟨S1x1x1x64, .f32⟩
  | 49 => ⟨S4x12x10000x64, .f32⟩
  | 50 => ⟨S4x12x10000x64, .f32⟩
  | 51 => ⟨S4x1x10000x64, .f32⟩
  | 52 => ⟨S4x10000x64, .f32⟩
  | 53 => ⟨S40000x64, .f32⟩
  | _ => ⟨S4x12x10000x32, .f32⟩

abbrev hbmTy (i : Nat) : BufTy := match i / 128 with
  | 0 => hbmTy0_0 i
  | 1 => hbmTy0_1 i
  | _ => ⟨S4x12x10000x32, .f32⟩

abbrev bufTy : (tb : Table) → Fin (tcTables nBuf tb) → BufTy
  | .hbm, ⟨i, _⟩ => hbmTy i
  | _, _ => ⟨S4x12x10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_v44 : Ref sig .tc := ⟨.hbm, 68, rfl⟩
abbrev main_c_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call3_cst : Ref sig .tc := ⟨.hbm, 106, rfl⟩
abbrev main_call3_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_14 : Ref sig .tc := ⟨.hbm, 123, rfl⟩
abbrev main_v89 : Ref sig .tc := ⟨.hbm, 124, rfl⟩
abbrev main_v90 : Ref sig .tc := ⟨.hbm, 125, rfl⟩
abbrev main_cst_15 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_16 : Ref sig .tc := ⟨.hbm, 130, rfl⟩
abbrev main_call4_v0 : Ref sig .tc := ⟨.hbm, 131, rfl⟩
abbrev main_call4_v1 : Ref sig .tc := ⟨.hbm, 132, rfl⟩
abbrev main_v94 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_c_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_19 : Ref sig .tc := ⟨.hbm, 144, rfl⟩
abbrev main_v103 : Ref sig .tc := ⟨.hbm, 145, rfl⟩
abbrev main_v104 : Ref sig .tc := ⟨.hbm, 146, rfl⟩
abbrev main_c_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_21 : Ref sig .tc := ⟨.hbm, 156, rfl⟩
abbrev main_v113 : Ref sig .tc := ⟨.hbm, 157, rfl⟩
abbrev main_v114 : Ref sig .tc := ⟨.hbm, 158, rfl⟩
abbrev main_c_22 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_23 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩

abbrev nD : Nat := 1
abbrev τ : Topo := Topo.v7x

variable {F : FTy → Type} [FloatOps F]
-- ==== Proof.Formula.lean ====
/- The two formulas to be compared, over plain functions of extended reals, and their equality.

   Both start from the same hidden vector of a node: the convolution over the nodes, a maximum with 0, a product with `w1`
   plus a bias, and a maximum with 0 again. The reference multiplies that vector by `w2`, adds a bias and multiplies by `wf`
   (`direct`); the kernel multiplies it by the product of the two matrices (`folded`). Extended reals do not distribute in
   general, so the equality asks that the hidden vector and the two matrices be real numbers; the biases may be anything. -/
module

public import Idealize.ShloMosaic.Lib.IdealHost

@[expose] public section

noncomputable section

open scoped BigOperators

namespace Cert.Formula

/-- An extended real that is a real number. -/
def IsReal (a : EReal) : Prop := ∃ r : ℝ, a = (r : EReal)

theorem isReal_of_ne {a : EReal} (h : a ≠ ⊤) (h' : a ≠ ⊥) : IsReal a := ⟨a.toReal, (EReal.coe_toReal h h').symm⟩

theorem isReal_zero : IsReal 0 := ⟨0, by norm_cast⟩

theorem IsReal.add {a b : EReal} (ha : IsReal a) (hb : IsReal b) : IsReal (a + b) := by
  obtain ⟨r, rfl⟩ := ha
  obtain ⟨s, rfl⟩ := hb
  exact ⟨r + s, by norm_cast⟩

theorem IsReal.mul {a b : EReal} (ha : IsReal a) (hb : IsReal b) : IsReal (a * b) := by
  obtain ⟨r, rfl⟩ := ha
  obtain ⟨s, rfl⟩ := hb
  exact ⟨r * s, by norm_cast⟩

theorem IsReal.max {a b : EReal} (ha : IsReal a) (hb : IsReal b) : IsReal (max a b) := by
  rcases max_choice a b with h | h <;> rw [h] <;> assumption

/-- A sum of reals, read as extended reals, is the extended sum. -/
theorem coe_sum_real {n : ℕ} (g : Fin n → ℝ) : ((∑ i, g i : ℝ) : EReal) = ∑ i, (g i : EReal) := by
  induction n with
  | zero => simp
  | succ n ih => rw [Fin.sum_univ_succ, Fin.sum_univ_succ, EReal.coe_add, ih]

theorem IsReal.sum {n : ℕ} {f : Fin n → EReal} (h : ∀ i, IsReal (f i)) : IsReal (∑ i, f i) := by
  choose g hg using h
  refine ⟨∑ i, g i, ?_⟩
  rw [coe_sum_real]
  exact Finset.sum_congr rfl fun i _ => hg i

section

variable (x : Fin 10000 → Fin 32 → EReal) (wt : Fin 3 → Fin 32 → Fin 64 → EReal) (bt : Fin 64 → EReal)
  (w1 : Fin 64 → Fin 64 → EReal) (b1 : Fin 64 → EReal) (w2 : Fin 64 → Fin 64 → EReal) (b2 : Fin 64 → EReal)
  (wf : Fin 64 → Fin 64 → EReal) (bf : Fin 64 → EReal)

/-- Entry `c` of the node before node `n`, of node `n`, or of the node after it (`d` = 0, 1, 2), 0 beyond either end. -/
def neighbour (n : Fin 10000) (d : Fin 3) (c : Fin 32) : EReal :=
  if h : 1 ≤ n.val + d.val ∧ n.val + d.val ≤ 10000 then x ⟨n.val + d.val - 1, by omega⟩ c else 0

/-- The convolution over the nodes with its bias, negative entries set to 0. -/
def convolved (n : Fin 10000) (k : Fin 64) : EReal :=
  max ((∑ c, neighbour x n 0 c * wt 0 c k) + (∑ c, neighbour x n 1 c * wt 1 c k) + (∑ c, neighbour x n 2 c * wt 2 c k) + bt k) 0

/-- The hidden vector of node `n`: its convolved vector times `w1` plus `b1`, negative entries set to 0. -/
def hidden (n : Fin 10000) (k : Fin 64) : EReal := max ((∑ j, convolved x wt bt n j * w1 j k) + b1 k) 0

/-- The reference's result: the hidden vector times `w2` plus `b2`, then times `wf` plus `bf`. -/
def direct (n : Fin 10000) (l : Fin 64) : EReal :=
  (∑ k, ((∑ j, hidden x wt bt w1 b1 n j * w2 j k) + b2 k) * wf k l) + bf l

/-- The kernel's result: the hidden vector times the product of `w2` and `wf`, plus the bias folded the same way. -/
def folded (n : Fin 10000) (l : Fin 64) : EReal :=
  (∑ j, hidden x wt bt w1 b1 n j * ∑ k, w2 j k * wf k l) + ((∑ k, b2 k * wf k l) + bf l)

variable {x wt bt w1 b1}

theorem isReal_neighbour (hx : ∀ n c, IsReal (x n c)) (n : Fin 10000) (d : Fin 3) (c : Fin 32) : IsReal (neighbour x n d c) := by
  unfold neighbour
  split
  · exact hx _ _
  · exact isReal_zero

theorem isReal_convolved (hx : ∀ n c, IsReal (x n c)) (hwt : ∀ d c k, IsReal (wt d c k)) (hbt : ∀ k, IsReal (bt k)) (n : Fin 10000)
    (k : Fin 64) : IsReal (convolved x wt bt n k) :=
  have s (d : Fin 3) : IsReal (∑ c, neighbour x n d c * wt d c k) := IsReal.sum fun c => (isReal_neighbour hx n d c).mul (hwt d c k)
  ((((s 0).add (s 1)).add (s 2)).add (hbt k)).max isReal_zero

theorem isReal_hidden (hx : ∀ n c, IsReal (x n c)) (hwt : ∀ d c k, IsReal (wt d c k)) (hbt : ∀ k, IsReal (bt k))
    (hw1 : ∀ j k, IsReal (w1 j k)) (hb1 : ∀ k, IsReal (b1 k)) (n : Fin 10000) (k : Fin 64) : IsReal (hidden x wt bt w1 b1 n k) :=
  ((IsReal.sum fun j => (isReal_convolved hx hwt hbt n j).mul (hw1 j k)).add (hb1 k)).max isReal_zero

end

/-- A product of a sum with a real number distributes when one of the two terms is real. -/
theorem add_mul_real {a b c : EReal} (ha : IsReal a) (hc : IsReal c) : (a + b) * c = a * c + b * c := by
  obtain ⟨r, rfl⟩ := ha
  obtain ⟨s, rfl⟩ := hc
  induction b with
  | coe t => norm_cast; ring
  | bot =>
    rw [EReal.add_bot, ← EReal.coe_mul]
    rcases lt_trichotomy s 0 with h | h | h
    · rw [EReal.bot_mul_coe_of_neg h, EReal.coe_add_top]
    · subst h; simp
    · rw [EReal.bot_mul_coe_of_pos h, EReal.add_bot]
  | top =>
    rw [EReal.coe_add_top, ← EReal.coe_mul]
    rcases lt_trichotomy s 0 with h | h | h
    · rw [EReal.top_mul_coe_of_neg h, EReal.add_bot]
    · subst h; simp
    · rw [EReal.top_mul_coe_of_pos h, EReal.coe_add_top]

/-- Reals: multiplying by two matrices one after the other is multiplying by their product. -/
theorem sum_mul_assoc {z : Fin 64 → EReal} {u : Fin 64 → Fin 64 → EReal} {v : Fin 64 → EReal} (hz : ∀ j, IsReal (z j))
    (hu : ∀ j k, IsReal (u j k)) (hv : ∀ k, IsReal (v k)) :
    ∑ k, (∑ j, z j * u j k) * v k = ∑ j, z j * ∑ k, u j k * v k := by
  choose z' hz' using hz
  choose u' hu' using hu
  choose v' hv' using hv
  simp only [hz', hu', hv', ← EReal.coe_mul, ← coe_sum_real]
  congr 1
  simp only [Finset.sum_mul, Finset.mul_sum]
  rw [Finset.sum_comm]
  exact Finset.sum_congr rfl fun j _ => Finset.sum_congr rfl fun k _ => mul_assoc _ _ _

/-- The two results are the same where the hidden vector and the two matrices are real. -/
theorem direct_eq_folded {x : Fin 10000 → Fin 32 → EReal} {wt : Fin 3 → Fin 32 → Fin 64 → EReal} {bt : Fin 64 → EReal}
    {w1 : Fin 64 → Fin 64 → EReal} {b1 : Fin 64 → EReal} {w2 : Fin 64 → Fin 64 → EReal} (b2 : Fin 64 → EReal)
    {wf : Fin 64 → Fin 64 → EReal} (bf : Fin 64 → EReal)
    (hx : ∀ n c, IsReal (x n c)) (hwt : ∀ d c k, IsReal (wt d c k)) (hbt : ∀ k, IsReal (bt k)) (hw1 : ∀ j k, IsReal (w1 j k))
    (hb1 : ∀ k, IsReal (b1 k)) (hw2 : ∀ j k, IsReal (w2 j k)) (hwf : ∀ j k, IsReal (wf j k)) (n : Fin 10000) (l : Fin 64) :
    direct x wt bt w1 b1 w2 b2 wf bf n l = folded x wt bt w1 b1 w2 b2 wf bf n l := by
  have hz := isReal_hidden hx hwt hbt hw1 hb1 n
  unfold direct folded
  rw [← add_assoc, ← sum_mul_assoc hz hw2 (fun k => hwf k l), ← Finset.sum_add_distrib]
  congr 1
  exact Finset.sum_congr rfl fun k _ => add_mul_real (IsReal.sum fun j => (hz j).mul (hw2 j k)) (hwf k l)

end Cert.Formula
-- ==== Proof.Pre.lean ====
/- What the precondition says: every target of the edge list is among the first 10000 rows, and the numbers that the two
   orders of multiplication meet are real. -/
module

public import proofs.«01_k».proof.Proof.Formula
public import proofs.«01_k».proof.Proof.Gen.Pre_finite_and_targets_in_range
public import Idealize.ShloMosaic.Lib.Pointwise
public import Idealize.ShloMosaic.Lib.ReduceAll
public import Idealize.ShloMosaic.Lib.WordCmp
public import Idealize.ShloMosaic.Lib.Affine

@[expose] public section

set_option maxRecDepth 16384

noncomputable section

namespace Cert.PreRead

open Cert.Pre_finite_and_targets_in_range Cert.Pre_finite_and_targets_in_range.Gen Idealize.ShloMosaic Cert.Formula

instance : Subsingleton S_.Idx := ⟨fun a b => funext fun i => i.elim0⟩

/-- Eight flags put together into a list are all set where their conjunction is. -/
theorem all_eight (v0 v1 v2 v3 v4 v5 v6 v7 : IVec S_ 1)
    (h : Host.reduce IntOp.andi (concatenate S8 0 [⟨S1, broadcastInDim S1 ![] bcast_S_S1 v0⟩, ⟨S1, broadcastInDim S1 ![] bcast_S_S1 v1⟩,
      ⟨S1, broadcastInDim S1 ![] bcast_S_S1 v2⟩, ⟨S1, broadcastInDim S1 ![] bcast_S_S1 v3⟩, ⟨S1, broadcastInDim S1 ![] bcast_S_S1 v4⟩,
      ⟨S1, broadcastInDim S1 ![] bcast_S_S1 v5⟩, ⟨S1, broadcastInDim S1 ![] bcast_S_S1 v6⟩, ⟨S1, broadcastInDim S1 ![] bcast_S_S1 v7⟩]
      concatenates_S1_S1_S1_S1_S1_S1_S1_S1_S8_d0) (constantI S_ 1 1#1) reducesTo_S8_S_d0 h_S_ ix0 = 1#1) :
    v0 ix0 = 1#1 ∧ v1 ix0 = 1#1 ∧ v2 ix0 = 1#1 ∧ v3 ix0 = 1#1 ∧ v4 ix0 = 1#1 ∧ v5 ix0 = 1#1 ∧ v6 ix0 = 1#1 ∧ v7 ix0 = 1#1 := by
  have a := Host.reduce_andi_all _ _ _ _ _ h
  refine ⟨Eq.trans ?_ (a (ix1 0)), Eq.trans ?_ (a (ix1 1)), Eq.trans ?_ (a (ix1 2)), Eq.trans ?_ (a (ix1 3)), Eq.trans ?_ (a (ix1 4)),
    Eq.trans ?_ (a (ix1 5)), Eq.trans ?_ (a (ix1 6)), Eq.trans ?_ (a (ix1 7))⟩ <;> pointwise

/-- A number whose absolute value is below the infinity is real. -/
theorem isReal_of_test (x : EReal) (h : FloatOps.cmpf (F := Ideal) (φ := .f32) .olt (FloatOps.hostAbsf (F := Ideal) (φ := .f32) x) (FloatOps.ofBits (F := Ideal) .f32 0x7F800000#32) = 1#1) : IsReal x := by
  have hb : FloatOps.ofBits (F := Ideal) .f32 0x7F800000#32 = (⊤ : EReal) := by
    simp [Ideal.ofBits, Ideal.ieee]
  rw [hb] at h
  have h' : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  refine isReal_of_ne (fun e => ?_) (fun e => ?_) <;> subst e <;> simp at h'

/-- An array that passes the test has real entries. -/
theorem isReal_of_all {s : Shape} {axes : List (Fin s.rank)} (a : FVec Ideal s .f32) (hb : S_.BroadcastsInDim s ![]) (hr : s.ReducesTo axes S_)
    (h : Host.reduce IntOp.andi (cmpf .olt (Host.absf a) (broadcastInDim s ![] hb (constant S_ .f32 0x7F800000#32))) (constantI S_ 1 1#1) hr h_S_ ix0 = 1#1)
    (i : s.Idx) : IsReal (a i) :=
  isReal_of_test _ (Host.reduce_andi_all _ _ _ _ _ h i)

/-- Targets that pass the test are among the first 10000 rows. -/
theorem targets_of_all (e : IVec S2x320000 32) (f : IVec S320000 32)
    (hf : f = shapeCast S320000 (extractStridedSlice S1x320000 ![1, 0] e slices_S2x320000_S1x320000_1_0) shapeCasts_S1x320000_S320000)
    (h : Host.reduce IntOp.andi (andi (cmpi .sge f (broadcastInDim S320000 ![] bcast_S_S320000 (constantI S_ 32 0#32)))
      (cmpi .slt f (broadcastInDim S320000 ![] bcast_S_S320000 (constantI S_ 32 10000#32)))) (constantI S_ 1 1#1) reducesTo_S320000_S_d0 h_S_ ix0 = 1#1)
    (p : Fin 320000) : 0 ≤ (e (ix2 1 p)).toInt ∧ (e (ix2 1 p)).toInt < 10000 := by
  have a := Host.reduce_andi_all _ _ _ _ _ h (ix1 p)
  have hp : f (ix1 p) = e (ix2 1 p) := by rw [hf]; pointwise
  obtain ⟨h1, h2⟩ := IntOp.andi_eq_one.1 (show IntOp.andi (IntOp.cmpi .sge (f (ix1 p)) 0#32) (IntOp.cmpi .slt (f (ix1 p)) 10000#32) = 1#1 from a)
  rw [hp, WordCmp.cmpi_sge_eq] at h1
  rw [hp, WordCmp.cmpi_slt_eq] at h2
  have t (q : Prop) [Decidable q] (hq : BitVec.ofBool (decide q) = 1#1) : q := by
    by_contra hn; rw [decide_eq_false hn] at hq; exact absurd hq (by decide)
  exact ⟨t _ h1, t _ h2⟩

/-- The precondition, read. -/
theorem read (x : FVec Ideal S4x12x10000x32 .f32) (e : IVec S2x320000 32) (w : FVec Ideal S320000 .f32) (Wt : FVec Ideal S64x32x3x1 .f32)
    (bt : FVec Ideal S64 .f32) (W1 : FVec Ideal S64x64 .f32) (b1 : FVec Ideal S64 .f32) (W2 : FVec Ideal S64x64 .f32)
    (b2 : FVec Ideal S64 .f32) (Wf : FVec Ideal S64x64 .f32) (bf : FVec Ideal S64 .f32)
    (h : fn (F := Ideal) x e w Wt bt W1 b1 W2 b2 Wf bf = fun _ => 1#1) :
    (∀ p : Fin 320000, 0 ≤ (e (ix2 1 p)).toInt ∧ (e (ix2 1 p)).toInt < 10000)
      ∧ (∀ (b : Fin 4) (n : Fin 10000) (c : Fin 32), IsReal (x (ix4 b 11 n c))) ∧ (∀ i, IsReal (Wt i)) ∧ (∀ i, IsReal (bt i))
      ∧ (∀ i, IsReal (W1 i)) ∧ (∀ i, IsReal (b1 i)) ∧ (∀ i, IsReal (W2 i)) ∧ (∀ i, IsReal (Wf i)) := by
  have h' := congrFun h ix0
  unfold fn fn_part1 fn_part2 at h'
  obtain ⟨h0, h1, h2, h3, h4, h5, h6, h7⟩ := all_eight _ _ _ _ _ _ _ _ h'
  refine ⟨targets_of_all e _ rfl h0, fun b n c => ?_, isReal_of_all _ _ _ h2, isReal_of_all _ _ _ h3, isReal_of_all _ _ _ h4,
    isReal_of_all _ _ _ h5, isReal_of_all _ _ _ h6, isReal_of_all _ _ _ h7⟩
  have hx := isReal_of_all _ _ _ h1 (ix3 b n c)
  have he : shapeCast S4x10000x32 (extractStridedSlice S4x1x10000x32 ![0, 11, 0, 0] x slices_S4x12x10000x32_S4x1x10000x32_0_11_0_0) shapeCasts_S4x1x10000x32_S4x10000x32 (ix3 b n c) = x (ix4 b 11 n c) := by
    pointwise
  rwa [he] at hx

end Cert.PreRead
-- ==== Proof.Graph.lean ====
/- The graph convolution of the reference, named piece by piece, and what it is at a row that no edge enters.

   `layer` is one graph convolution as the reference computes it: messages along the edges and along the self-loops,
   weighted by `edgeNorm` and added up at their targets. Its edge list has the 320000 given edges first and then one
   self-loop for each of the 480000 rows. Every given edge has its target among the first 10000 rows (`TargetsInRange`),
   so at a row from 10000 on only the self-loop arrives: the degree is 1, the weight is 1, and the convolution is the
   plain product with the weights plus the bias (`layer_apply`). -/
module

public import proofs.«01_k».proof.Proof.Gen.ReferenceIdeal
public import Idealize.ShloMosaic.Lib.Pointwise
public import Idealize.ShloMosaic.Lib.Routing.OpsPair
public import Idealize.ShloMosaic.Lib.Routing.OpsSet
public import Idealize.ShloMosaic.Lib.IdealHost

@[expose] public section

set_option maxRecDepth 16384

noncomputable section

namespace Cert.Graph

open Cert.ReferenceIdeal Cert.ReferenceIdeal.Gen Idealize.ShloMosaic

/-- Row `k` of the edge array (0 the sources, 1 the targets), then one self-loop per row. -/
def sources (e : IVec S2x320000 32) : IVec S800000 32 :=
  concatenate S800000 0 [⟨S320000, shapeCast _ (extractStridedSlice S1x320000 ![0, 0] e slices_S2x320000_S1x320000_0_0) shapeCasts_S1x320000_S320000⟩, ⟨S480000, iotaInDim S480000 32 0⟩] concatenates_S320000_S480000_S800000_d0

/-- The targets of all edges: the given ones, then the self-loops'. -/
def targets (e : IVec S2x320000 32) : IVec S800000 32 :=
  concatenate S800000 0 [⟨S320000, shapeCast _ (extractStridedSlice S1x320000 ![1, 0] e slices_S2x320000_S1x320000_1_0) shapeCasts_S1x320000_S320000⟩, ⟨S480000, iotaInDim S480000 32 0⟩] concatenates_S320000_S480000_S800000_d0

/-- The weights of all edges: the given ones, then 1 for each self-loop. -/
def weights (w : FVec Ideal S320000 .f32) : FVec Ideal S800000 .f32 :=
  concatenate S800000 0 [⟨S320000, w⟩, ⟨S480000, broadcastInDim S480000 ![] bcast_S_S480000 (constant S_ .f32 0x3F800000#32)⟩] concatenates_S320000_S480000_S800000_d0

/-- A list of row numbers as one column, the form in which scatters and gathers take it. -/
def column (i : IVec S800000 32) : IVec S800000x1 32 := broadcastInDim S800000x1 ![0] bcast_S800000_S800000x1_0 i

/-- A list of row numbers with negative ones counted from the end. -/
def wrapped (i : IVec S800000 32) : IVec S800000 32 :=
  select (cmpi .slt i (broadcastInDim S800000 ![] bcast_S_S800000 (constantI S_ 32 0#32)))
    (addi i (broadcastInDim S800000 ![] bcast_S_S800000 (constantI S_ 32 480000#32))) i

/-- The degree of a row: the weights of the edges that enter it, added up. -/
def degree (e : IVec S2x320000 32) (w : FVec Ideal S320000 .f32) : FVec Ideal S480000 .f32 :=
  Host.scatterAdd scatter_S480000_S800000x1_S800000_n_0_0_1 (broadcastInDim S480000 ![] bcast_S_S480000 (constant S_ .f32 0x00000000#32)) (column (targets e)) (weights w)

/-- One over the square root of a degree, 0 where the degree is not positive. -/
def invSqrt (d : FVec Ideal S480000 .f32) : FVec Ideal S480000 .f32 :=
  select (cmpf .ogt d (broadcastInDim S480000 ![] bcast_S_S480000 (constant S_ .f32 0x00000000#32)))
    (Host.rsqrt (maximumf d (broadcastInDim S480000 ![] bcast_S_S480000 (constant S_ .f32 0x2B8CBCCC#32))))
    (broadcastInDim S480000 ![] bcast_S_S480000 (id (constant S_ .f32 0x00000000#32)))

/-- The normalised weights: the weight of an edge times `d` at its two ends. -/
def normalised (d : FVec Ideal S480000 .f32) (src tgt : IVec S800000 32) (w : FVec Ideal S800000 .f32) : FVec Ideal S800000 .f32 :=
  mulf (mulf (Host.gather gather_S480000_S800000x1_S800000_n_0_n_n_0_1_1 d (column (wrapped src))) w)
    (Host.gather gather_S480000_S800000x1_S800000_n_0_n_n_0_1_1 d (column (wrapped tgt)))

/-- The normalised weight of an edge: its weight divided by the square roots of the degrees at its two ends. -/
def edgeNorm (e : IVec S2x320000 32) (w : FVec Ideal S320000 .f32) : FVec Ideal S800000 .f32 :=
  normalised (invSqrt (degree e w)) (sources e) (targets e) (weights w)

/-- The messages along the edges, the rows `h` at the edges' sources times the norms `d`, added up at the edges' targets. -/
def gathered (src tgt : IVec S800000 32) (d : FVec Ideal S800000 .f32) (h : FVec Ideal S480000x64 .f32) : FVec Ideal S480000x64 .f32 :=
  Host.scatterAdd scatter_S480000x64_S800000x1_S800000x64_1_0_0_1 (broadcastInDim S480000x64 ![] bcast_S_S480000x64 (constant S_ .f32 0x00000000#32)) (column tgt)
    (mulf (broadcastInDim S800000x64 ![0, 1] bcast_S800000x1_S800000x64_0_1 (broadcastInDim S800000x1 ![0] bcast_S800000_S800000x1_0 d))
      (Host.gather gather_S480000x64_S800000x1_S800000x64_1_0_n_n_0_1_164 h (column (wrapped src))))

/-- One graph convolution of the rows `h` with weights `W` and bias `b`. -/
def layer (e : IVec S2x320000 32) (w : FVec Ideal S320000 .f32) (h : FVec Ideal S480000x64 .f32) (W : FVec Ideal S64x64 .f32)
    (b : FVec Ideal S64 .f32) : FVec Ideal S480000x64 .f32 :=
  addf (gathered (sources e) (targets e) (edgeNorm e w) (Host.dotGeneral dot_S480000x64_S64x64_S480000x64_1_0_0_1_n_n none h W))
    (broadcastInDim S480000x64 ![0, 1] bcast_S1x64_S480000x64_0_1 (broadcastInDim S1x64 ![1] bcast_S64_S1x64_1 b))

/-- Every given edge enters one of the first 10000 rows. -/
def TargetsInRange (e : IVec S2x320000 32) : Prop :=
  ∀ p : Fin 320000, 0 ≤ (e (ix2 1 p)).toInt ∧ (e (ix2 1 p)).toInt < 10000

/-! ## The edge list, read at a position -/

/-- The self-loop of row `r`, as a position in the edge list. -/
abbrev loopOf (r : Fin 480000) : Fin 800000 := ⟨320000 + r.val, by omega⟩

/-- The targets at a position: the given edge's target, or the self-loop's row. -/
theorem targets_apply (e : IVec S2x320000 32) (p : Fin 800000) :
    targets e (ix1 p) = if h : p.val < 320000 then e (ix2 1 ⟨p.val, h⟩) else BitVec.ofNat 32 (p.val - 320000) := by
  unfold targets
  split
  · next h => pointwise; simp [h]
  · next h => pointwise; simp [h]

/-- The column of a list has the list's entries. -/
theorem column_apply (i : IVec S800000 32) (p : Fin 800000) (z : Fin 1) : column i (ix2 p z) = i (ix1 p) := by
  unfold column
  pointwise

/-- The sources at a self-loop's position: its row. -/
theorem sources_loop (e : IVec S2x320000 32) (r : Fin 480000) : sources e (ix1 (loopOf r)) = BitVec.ofNat 32 r.val := by
  unfold sources
  pointwise

/-- The targets at a self-loop's position: its row. -/
theorem targets_loop (e : IVec S2x320000 32) (r : Fin 480000) : targets e (ix1 (loopOf r)) = BitVec.ofNat 32 r.val := by
  rw [targets_apply]
  simp

/-- The weight at a self-loop's position is 1. -/
theorem weights_loop (w : FVec Ideal S320000 .f32) (r : Fin 480000) : weights w (ix1 (loopOf r)) = 1 := by
  unfold weights
  pointwise

/-- A row number read as a signed word is itself. -/
theorem toInt_row (r : Nat) (hr : r < 480000) : (BitVec.ofNat 32 r).toInt = (r : Int) :=
  StableHlo.Predicate.toInt_ofNat_small _ (by omega)

/-- Only its self-loop enters a row from 10000 on. -/
theorem enters_iff (e : IVec S2x320000 32) (he : TargetsInRange e) (r : Fin 480000) (hr : 10000 ≤ r.val) (p : Fin 800000) :
    (targets e (ix1 p)).toInt = (r.val : Int) ↔ p = loopOf r := by
  rw [targets_apply]
  split
  · next h =>
    have := he ⟨p.val, h⟩
    refine ⟨fun q => by omega, fun q => ?_⟩
    have : p.val = 320000 + r.val := congrArg Fin.val q
    omega
  · next h =>
    rw [toInt_row _ (by omega)]
    refine ⟨fun q => Fin.ext (show p.val = 320000 + r.val by omega), fun q => ?_⟩
    have : p.val = 320000 + r.val := congrArg Fin.val q
    omega

/-- A row number that is not negative is left as it is by the wrap. -/
theorem wrapped_row (i : IVec S800000 32) (p : Fin 800000) (r : Nat) (hr : r < 480000) (hi : i (ix1 p) = BitVec.ofNat 32 r) :
    wrapped i (ix1 p) = BitVec.ofNat 32 r := by
  unfold wrapped
  pointwise
  rw [hi]
  exact Routing.wrap_of_lt _ _ (by rw [BitVec.toNat_ofNat]; omega)

/-! ## Where an update lands -/

/-- An update of the degrees lands at the row that its edge enters. -/
theorem lands_degree (i : IVec S800000x1 32) (p : Fin 800000) (r : Fin 480000) :
    scatter_S480000_S800000x1_S800000_n_0_0_1.resultIdx? (ix1 p) i = some (ix1 r) ↔ (i (ix2 p 0)).toInt = (r.val : Int) := by
  rw [Routing.resultIdx?_eq_some]
  have hs : scatter_S480000_S800000x1_S800000_n_0_0_1.start (ix1 p) i 0 = (i (ix2 p 0)).toInt := by
    unfold ScatterDims.start
    rw [dif_pos (show (0 : Fin 1) ∈ scatter_S480000_S800000x1_S800000_n_0_0_1.scatterDimsToOperandDims from List.mem_singleton.mpr rfl)]
    congr 2
    funext b
    refine Fin.ext ?_
    match b with
    | ⟨0, _⟩ => rfl
    | ⟨1, _⟩ => rfl
  have hw : scatter_S480000_S800000x1_S800000_n_0_0_1.window (ix1 p) 0 = 0 := by
    unfold ScatterDims.window
    rw [dif_neg (by decide)]
  constructor
  · intro h
    have := h 0
    rw [hs, hw] at this
    simpa using this
  · intro h a
    obtain rfl : a = 0 := Subsingleton.elim _ _
    rw [hs, hw]
    simpa using h

/-- An update of the rows lands at the row that its edge enters, in its own column. -/
theorem lands_layer (i : IVec S800000x1 32) (p : Fin 800000) (q : Fin 64) (r : Fin 480000) (k : Fin 64) :
    scatter_S480000x64_S800000x1_S800000x64_1_0_0_1.resultIdx? (ix2 p q) i = some (ix2 r k)
      ↔ (i (ix2 p 0)).toInt = (r.val : Int) ∧ q = k := by
  rw [Routing.resultIdx?_eq_some]
  have hs : scatter_S480000x64_S800000x1_S800000x64_1_0_0_1.start (ix2 p q) i 0 = (i (ix2 p 0)).toInt := by
    unfold ScatterDims.start
    rw [dif_pos (show (0 : Fin 2) ∈ scatter_S480000x64_S800000x1_S800000x64_1_0_0_1.scatterDimsToOperandDims from List.mem_singleton.mpr rfl)]
    congr 2
    funext b
    refine Fin.ext ?_
    match b with
    | ⟨0, _⟩ => rfl
    | ⟨1, _⟩ => rfl
  have hs1 : scatter_S480000x64_S800000x1_S800000x64_1_0_0_1.start (ix2 p q) i 1 = 0 := by
    unfold ScatterDims.start
    rw [dif_neg (by decide)]
  have hw : scatter_S480000x64_S800000x1_S800000x64_1_0_0_1.window (ix2 p q) 0 = 0 := by
    unfold ScatterDims.window
    rw [dif_neg (by decide)]
  have hw1 : scatter_S480000x64_S800000x1_S800000x64_1_0_0_1.window (ix2 p q) 1 = q.val := by
    unfold ScatterDims.window
    rw [dif_pos (by decide)]
    rfl
  constructor
  · intro h
    have h0 := h 0
    have h1 := h 1
    rw [hs, hw] at h0
    rw [hs1, hw1] at h1
    simp only [ix2_0, ix2_1] at h0 h1
    exact ⟨by simpa using h0, Fin.ext (by omega)⟩
  · rintro ⟨h, rfl⟩ a
    match a with
    | ⟨0, _⟩ => exact (congrArg₂ (fun x y : Int => x + y) hs (congrArg Nat.cast hw)).trans (by simpa using h)
    | ⟨1, _⟩ => exact (congrArg₂ (fun x y : Int => x + y) hs1 (congrArg Nat.cast hw1)).trans (by simp)

/-! ## A row that one edge enters -/

section One

variable (r : Fin 480000) (p : Fin 800000)

/-- A sum over the edges that enter row `r`, when that is edge `p` alone. -/
theorem scatter_one (x : FVec Ideal S480000 .f32) (i : IVec S800000x1 32) (u : FVec Ideal S800000 .f32)
    (hi : ∀ q : Fin 800000, (i (ix2 q 0)).toInt = (r.val : Int) ↔ q = p) :
    Host.scatterAdd scatter_S480000_S800000x1_S800000_n_0_0_1 x i u (ix1 r) = x (ix1 r) + u (ix1 p) := by
  unfold Host.scatterAdd
  rw [Ideal.hostScatterAdd_def]
  unfold Ideal.hostScatterAdd
  rw [Finset.sum_filter, Finset.sum_eq_single (ix1 p)]
  · rw [if_pos ((lands_degree _ _ _).2 ((hi p).2 rfl))]
  · intro j _ hj
    obtain ⟨q, rfl⟩ : ∃ q : Fin 800000, j = ix1 q := ⟨j 0, eq_ix1 j⟩
    exact if_neg fun h => hj (congrArg ix1 ((hi q).1 ((lands_degree _ _ _).1 h)))
  · exact fun h => (h (Finset.mem_univ _)).elim

/-- The same for rows of 64 entries, at column `k`. -/
theorem scatter_row_one (k : Fin 64) (x : FVec Ideal S480000x64 .f32) (i : IVec S800000x1 32) (u : FVec Ideal S800000x64 .f32)
    (hi : ∀ q : Fin 800000, (i (ix2 q 0)).toInt = (r.val : Int) ↔ q = p) :
    Host.scatterAdd scatter_S480000x64_S800000x1_S800000x64_1_0_0_1 x i u (ix2 r k) = x (ix2 r k) + u (ix2 p k) := by
  unfold Host.scatterAdd
  rw [Ideal.hostScatterAdd_def]
  unfold Ideal.hostScatterAdd
  rw [Finset.sum_filter, Finset.sum_eq_single (ix2 p k)]
  · rw [if_pos ((lands_layer _ _ _ _ _).2 ⟨(hi p).2 rfl, rfl⟩)]
  · intro j _ hj
    obtain ⟨q, l, rfl⟩ : ∃ (q : Fin 800000) (l : Fin 64), j = ix2 q l := ⟨j 0, j 1, eq_ix2 j⟩
    refine if_neg fun h => hj ?_
    have h' := (lands_layer _ _ _ _ _).1 h
    rw [(hi q).1 h'.1, h'.2]
  · exact fun h => (h (Finset.mem_univ _)).elim

/-- A gather from a vector at an edge that names row `r`. -/
theorem gather_at (d : FVec Ideal S480000 .f32) (i : IVec S800000 32) (hi : i (ix1 p) = BitVec.ofNat 32 r.val) :
    Host.gather gather_S480000_S800000x1_S800000_n_0_n_n_0_1_1 d (column (wrapped i)) (ix1 p) = d (ix1 r) := by
  rw [ix1_eq_valueIdx, ix1_eq_valueIdx]
  refine Routing.gather_take1 _ rfl rfl rfl rfl d _ p r ?_ (by omega)
  rw [← ix2_eq_valueIdx, column_apply]
  exact wrapped_row i _ _ r.isLt hi

/-- A gather of rows at an edge that names row `r`. -/
theorem gather_row_at (h : FVec Ideal S480000x64 .f32) (i : IVec S800000 32) (hi : i (ix1 p) = BitVec.ofNat 32 r.val) (k : Fin 64) :
    Host.gather gather_S480000x64_S800000x1_S800000x64_1_0_n_n_0_1_164 h (column (wrapped i)) (ix2 p k) = h (ix2 r k) := by
  rw [ix2_eq_valueIdx, ix2_eq_valueIdx]
  refine Routing.gather_row _ rfl rfl rfl rfl rfl h _ p k r ?_ (by omega)
  rw [← ix2_eq_valueIdx, column_apply]
  exact wrapped_row i _ _ r.isLt hi

/-- The lower bound put on a degree, 10⁻¹² in its float word, is at most 1. -/
theorem small_le_one : Ideal.ofBits .f32 0x2B8CBCCC#32 ≤ 1 := by
  rw [show (1 : EReal) = ((1 : ℝ) : EReal) by norm_cast]
  simp [Ideal.ofBits, Ideal.ieee, -EReal.coe_mul, -EReal.coe_one]
  norm_num

/-- The reciprocal root of the degree 1 is 1. -/
theorem invSqrt_one (d : FVec Ideal S480000 .f32) (hd : d (ix1 r) = 1) : invSqrt d (ix1 r) = 1 := by
  unfold invSqrt
  pointwise
  rw [hd, if_pos one_pos, max_eq_left small_le_one, show (1 : EReal) = ((1 : ℝ) : EReal) by norm_cast, Ideal.rsqrt_coe]
  simp

/-- The normalised weight of an edge of weight 1 between `r` and itself, where `d` is 1. -/
theorem normalised_one (d : FVec Ideal S480000 .f32) (src tgt : IVec S800000 32) (w : FVec Ideal S800000 .f32)
    (hd : d (ix1 r) = 1) (hs : src (ix1 p) = BitVec.ofNat 32 r.val) (ht : tgt (ix1 p) = BitVec.ofNat 32 r.val) (hw : w (ix1 p) = 1) :
    normalised d src tgt w (ix1 p) = 1 := by
  unfold normalised
  rw [ValueIdx.mulf_apply, ValueIdx.mulf_apply, gather_at r p d src hs, gather_at r p d tgt ht, hd, hw, one_mul, one_mul]

/-- What arrives at `r` when edge `p` alone enters it, with norm 1, from `r` itself: row `r` of `h`. -/
theorem gathered_one (src tgt : IVec S800000 32) (d : FVec Ideal S800000 .f32) (h : FVec Ideal S480000x64 .f32)
    (hs : src (ix1 p) = BitVec.ofNat 32 r.val) (ht : ∀ q : Fin 800000, (tgt (ix1 q)).toInt = (r.val : Int) ↔ q = p)
    (hd : d (ix1 p) = 1) (k : Fin 64) : gathered src tgt d h (ix2 r k) = h (ix2 r k) := by
  unfold gathered
  rw [scatter_row_one r p k _ _ _ (fun q => by rw [column_apply]; exact ht q), ValueIdx.mulf_apply, gather_row_at r p h src hs k]
  pointwise
  rw [hd, one_mul]

/-- A product of rows with a matrix, at an entry. -/
theorem product_apply (h : FVec Ideal S480000x64 .f32) (W : FVec Ideal S64x64 .f32) (k : Fin 64) :
    Host.dotGeneral dot_S480000x64_S64x64_S480000x64_1_0_0_1_n_n none h W (ix2 r k) = ∑ j : Fin 64, h (ix2 r j) * W (ix2 j k) := by
  pointwise

/-- A bias added to every row, at an entry. -/
theorem bias_apply (x : FVec Ideal S480000x64 .f32) (b : FVec Ideal S64 .f32) (k : Fin 64) :
    addf x (broadcastInDim S480000x64 ![0, 1] bcast_S1x64_S480000x64_0_1 (broadcastInDim S1x64 ![1] bcast_S64_S1x64_1 b)) (ix2 r k)
      = x (ix2 r k) + b (ix1 k) := by
  pointwise

end One

/-! ## A row from 10000 on -/

variable (e : IVec S2x320000 32) (he : TargetsInRange e) (w : FVec Ideal S320000 .f32) (r : Fin 480000) (hr : 10000 ≤ r.val)
include he hr

/-- Its degree is 1. -/
theorem degree_apply : degree e w (ix1 r) = 1 := by
  unfold degree
  rw [scatter_one r (loopOf r) _ _ _ (fun q => by rw [column_apply]; exact enters_iff e he r hr q), weights_loop]
  pointwise

/-- Its self-loop has the normalised weight 1. -/
theorem edgeNorm_loop : edgeNorm e w (ix1 (loopOf r)) = 1 := by
  unfold edgeNorm
  exact normalised_one r _ _ _ _ _ (invSqrt_one r _ (degree_apply e he w r hr)) (sources_loop e r) (targets_loop e r) (weights_loop w r)

/-- The convolution there is the product with the weights, plus the bias. -/
theorem layer_apply (h : FVec Ideal S480000x64 .f32) (W : FVec Ideal S64x64 .f32) (b : FVec Ideal S64 .f32) (k : Fin 64) :
    layer e w h W b (ix2 r k) = ∑ j : Fin 64, h (ix2 r j) * W (ix2 j k) + b (ix1 k) := by
  unfold layer
  rw [bias_apply, gathered_one r (loopOf r) _ _ _ _ (sources_loop e r) (enters_iff e he r hr) (edgeNorm_loop e he w r hr), product_apply]

end Cert.Graph

end
-- ==== Proof.RefValue.lean ====
/- What the reference computes at the last time step.

   `refOut` is the reference's result array, written with the named graph convolution of `Graph`. -/
module

public import proofs.«01_k».proof.Proof.Graph
public import proofs.«01_k».proof.Proof.Formula
public import proofs.«01_k».proof.Proof.Gen.ReferenceIdeal.Run

@[expose] public section

set_option maxRecDepth 16384

noncomputable section

namespace Cert.RefValue

open Cert.ReferenceIdeal Cert.ReferenceIdeal.Gen Idealize.ShloMosaic

/-- The input with one row of zeros before the first node and one after the last. -/
def padded (x : FVec Ideal S4x12x10000x32 .f32) : FVec Ideal S4x12x10002x32 .f32 :=
  pad S4x12x10002x32 ![0, 0, 1, 0] ![0, 0, 1, 0] ![0, 0, 0, 0] x (sitofp .f32 (constantI S_ 32 0#32)) pads_S4x12x10000x32_S4x12x10002x32_000_000_110_000 h_S_

/-- The convolution over the nodes, with its bias. -/
def conv (x : FVec Ideal S4x12x10000x32 .f32) (Wt : FVec Ideal S64x32x3x1 .f32) (bt : FVec Ideal S64 .f32) : FVec Ideal S4x12x10000x64 .f32 :=
  addf (addf (addf (addf (broadcastInDim S4x12x10000x64 ![] bcast_S_S4x12x10000x64 (constant S_ .f32 0x00000000#32))
    (Host.dotGeneral dot_S4x12x10000x32_S32x64_S4x12x10000x64_3_0_012_1_n_n none (extractStridedSlice S4x12x10000x32 ![0, 0, 0, 0] (padded x) slices_S4x12x10002x32_S4x12x10000x32_0_0_0_0) (transpose S32x64 [1, 0] (shapeCast _ (extractStridedSlice S64x32x1x1 ![0, 0, 0, 0] Wt slices_S64x32x3x1_S64x32x1x1_0_0_0_0) shapeCasts_S64x32x1x1_S64x32) transposes_S64x32_S32x64_1_0)))
    (Host.dotGeneral dot_S4x12x10000x32_S32x64_S4x12x10000x64_3_0_012_1_n_n none (extractStridedSlice S4x12x10000x32 ![0, 0, 1, 0] (padded x) slices_S4x12x10002x32_S4x12x10000x32_0_0_1_0) (transpose S32x64 [1, 0] (shapeCast _ (extractStridedSlice S64x32x1x1 ![0, 0, 1, 0] Wt slices_S64x32x3x1_S64x32x1x1_0_0_1_0) shapeCasts_S64x32x1x1_S64x32) transposes_S64x32_S32x64_1_0)))
    (Host.dotGeneral dot_S4x12x10000x32_S32x64_S4x12x10000x64_3_0_012_1_n_n none (extractStridedSlice S4x12x10000x32 ![0, 0, 2, 0] (padded x) slices_S4x12x10002x32_S4x12x10000x32_0_0_2_0) (transpose S32x64 [1, 0] (shapeCast _ (extractStridedSlice S64x32x1x1 ![0, 0, 2, 0] Wt slices_S64x32x3x1_S64x32x1x1_0_0_2_0) shapeCasts_S64x32x1x1_S64x32) transposes_S64x32_S32x64_1_0)))
    (broadcastInDim S4x12x10000x64 ![0, 1, 2, 3] bcast_S1x1x1x64_S4x12x10000x64_0_1_2_3 (broadcastInDim S1x1x1x64 ![3] bcast_S64_S1x1x1x64_3 bt))

/-- The rows that go into the first graph convolution: the convolution's, negative entries set to 0. -/
def rows (y : FVec Ideal S4x12x10000x64 .f32) : FVec Ideal S480000x64 .f32 :=
  shapeCast _ (maximumf y (broadcastInDim S4x12x10000x64 ![] bcast_S_S4x12x10000x64 (constant S_ .f32 0x00000000#32))) shapeCasts_S4x12x10000x64_S480000x64

/-- Negative entries of rows set to 0. -/
def relu (h : FVec Ideal S480000x64 .f32) : FVec Ideal S480000x64 .f32 :=
  maximumf h (broadcastInDim S480000x64 ![] bcast_S_S480000x64 (constant S_ .f32 0x00000000#32))

/-- The final product and bias, at the last time step. -/
def head (h : FVec Ideal S480000x64 .f32) (Wf : FVec Ideal S64x64 .f32) (bf : FVec Ideal S64 .f32) : FVec Ideal S40000x64 .f32 :=
  shapeCast _ (shapeCast _ (extractStridedSlice S4x1x10000x64 ![0, 11, 0, 0] (addf (Host.dotGeneral dot_S4x12x10000x64_S64x64_S4x12x10000x64_3_0_012_1_n_n none (shapeCast _ h shapeCasts_S480000x64_S4x12x10000x64) Wf)
    (broadcastInDim S4x12x10000x64 ![0, 1, 2, 3] bcast_S1x1x1x64_S4x12x10000x64_0_1_2_3 (broadcastInDim S1x1x1x64 ![3] bcast_S64_S1x1x1x64_3 bf))) slices_S4x12x10000x64_S4x1x10000x64_0_11_0_0) shapeCasts_S4x1x10000x64_S4x10000x64) shapeCasts_S4x10000x64_S40000x64

/-- The reference's result. -/
def refOut (x : FVec Ideal S4x12x10000x32 .f32) (e : IVec S2x320000 32) (w : FVec Ideal S320000 .f32) (Wt : FVec Ideal S64x32x3x1 .f32)
    (bt : FVec Ideal S64 .f32) (W1 : FVec Ideal S64x64 .f32) (b1 : FVec Ideal S64 .f32) (W2 : FVec Ideal S64x64 .f32)
    (b2 : FVec Ideal S64 .f32) (Wf : FVec Ideal S64x64 .f32) (bf : FVec Ideal S64 .f32) : FVec Ideal S40000x64 .f32 :=
  head (Graph.layer e w (relu (Graph.layer e w (rows (conv x Wt bt)) W1 b1)) W2 b2) Wf bf

/-- The array the run of the reference leaves is `refOut` of the arguments. -/
theorem res_eq (m : (ℓ : Loc nD τ sig) → Buf (Elt Ideal) ℓ) (c : Dev nD) :
    Value.res_main_v135 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  rfl

/-- Row `n` of batch `b` at the last time step, among all rows. -/
def lastRow (b : Fin 4) (n : Fin 10000) : Fin 480000 := ⟨b.val * 120000 + 110000 + n.val, by omega⟩

/-- The input at the last time step, per node. -/
def lastStep (x : FVec Ideal S4x12x10000x32 .f32) (b : Fin 4) (n : Fin 10000) (c : Fin 32) : EReal := x (ix4 b 11 n c)

/-- The padded input at the last time step, `d` rows on from row `n`. -/
theorem padded_apply (x : FVec Ideal S4x12x10000x32 .f32) (b : Fin 4) (n : Fin 10000) (d : Fin 3) (c : Fin 32)
    (q : Fin 10002) (hq : q.val = n.val + d.val) :
    padded x (ix4 b 11 q c) = Formula.neighbour (lastStep x b) n d c := by
  rw [show q = ⟨n.val + d.val, by omega⟩ from Fin.ext hq]
  unfold padded Formula.neighbour lastStep
  pointwise
  by_cases h : 1 ≤ n.val + d.val ∧ n.val + d.val ≤ 10000
  · rw [dif_pos h, dif_pos ⟨h.1, by omega⟩]
  · rw [dif_neg h, dif_neg (by omega)]
    show ((((0#32 : BitVec 32).toInt : ℝ)) : EReal) = 0
    simp

/-- The convolution at the last time step. -/
theorem conv_apply (x : FVec Ideal S4x12x10000x32 .f32) (Wt : FVec Ideal S64x32x3x1 .f32) (bt : FVec Ideal S64 .f32)
    (b : Fin 4) (n : Fin 10000) (k : Fin 64) :
    max (conv x Wt bt (ix4 b 11 n k)) 0 = Formula.convolved (lastStep x b) (fun d c k => Wt (ix4 k c d 0)) (fun k => bt (ix1 k)) n k := by
  unfold conv Formula.convolved
  have h (d : Fin 3) (c : Fin 32) (q : Fin 10002) (hq : q.val = n.val + d.val) := padded_apply x b n d c q hq
  generalize padded x = y at h ⊢
  pointwise
  simp only [h 0 _ ⟨n.val, _⟩ rfl, h 1 _ ⟨1 + n.val, _⟩ (Nat.add_comm _ _), h 2 _ ⟨2 + n.val, _⟩ (Nat.add_comm _ _)]

/-- The rows that go into the first graph convolution, at the last time step. -/
theorem rows_apply (y : FVec Ideal S4x12x10000x64 .f32) (b : Fin 4) (n : Fin 10000) (k : Fin 64) :
    rows y (ix2 (lastRow b n) k) = max (y (ix4 b 11 n k)) 0 := by
  have h0 : (lastRow b n).val / 120000 = b.val := by simp only [lastRow]; omega
  have h1 : (lastRow b n).val / 10000 % 12 = 11 := by simp only [lastRow]; omega
  have h2 : (lastRow b n).val % 10000 = n.val := by simp only [lastRow]; omega
  unfold rows
  pointwise
  simp only [h0, h1, h2]
  rfl

/-- Rows with negative entries set to 0, at an entry. -/
theorem relu_apply (h : FVec Ideal S480000x64 .f32) (r : Fin 480000) (k : Fin 64) : relu h (ix2 r k) = max (h (ix2 r k)) 0 := by
  unfold relu
  pointwise

/-- The final product and bias, at an entry of the result. -/
theorem head_apply (h : FVec Ideal S480000x64 .f32) (Wf : FVec Ideal S64x64 .f32) (bf : FVec Ideal S64 .f32) (b : Fin 4) (n : Fin 10000) (k : Fin 64) :
    head h Wf bf (ix2 ⟨b.val * 10000 + n.val, by omega⟩ k) = (∑ j : Fin 64, h (ix2 (lastRow b n) j) * Wf (ix2 j k)) + bf (ix1 k) := by
  unfold head
  pointwise
  rfl

/-- The reference's result at node `n` of batch `b`, when no given edge enters a row from 10000 on. -/
theorem refOut_apply (x : FVec Ideal S4x12x10000x32 .f32) (e : IVec S2x320000 32) (he : Graph.TargetsInRange e) (w : FVec Ideal S320000 .f32)
    (Wt : FVec Ideal S64x32x3x1 .f32) (bt : FVec Ideal S64 .f32) (W1 : FVec Ideal S64x64 .f32) (b1 : FVec Ideal S64 .f32)
    (W2 : FVec Ideal S64x64 .f32) (b2 : FVec Ideal S64 .f32) (Wf : FVec Ideal S64x64 .f32) (bf : FVec Ideal S64 .f32)
    (b : Fin 4) (n : Fin 10000) (l : Fin 64) :
    refOut x e w Wt bt W1 b1 W2 b2 Wf bf (ix2 ⟨b.val * 10000 + n.val, by omega⟩ l)
      = Formula.direct (lastStep x b) (fun d c k => Wt (ix4 k c d 0)) (fun k => bt (ix1 k)) (fun j k => W1 (ix2 j k)) (fun k => b1 (ix1 k))
        (fun j k => W2 (ix2 j k)) (fun k => b2 (ix1 k)) (fun j k => Wf (ix2 j k)) (fun k => bf (ix1 k)) n l := by
  have hr : 10000 ≤ (lastRow b n).val := by simp only [lastRow]; omega
  unfold refOut Formula.direct Formula.hidden
  rw [head_apply]
  simp only [Graph.layer_apply e he w _ hr, relu_apply, rows_apply, conv_apply]

end Cert.RefValue
-- ==== Proof.KernelBlock.lean ====
/- What one grid point of the kernel computes: entry (n, l) of its block is the formula `Formula.folded`, written over the
   blocks it reads. -/
module

public import proofs.«01_k».proof.Proof.Formula
public import proofs.«01_k».proof.Proof.Gen.KernelIdeal.Value
public import Idealize.ShloMosaic.Lib.Pointwise
public import Idealize.ShloMosaic.Lib.WordCmp
public import Idealize.ShloMosaic.Lib.Pipeline.Value

@[expose] public section

set_option maxRecDepth 16384

noncomputable section

namespace Cert.KernelBlock

open Cert.KernelIdeal Cert.KernelIdeal.Gen Idealize.ShloMosaic

variable (x : Vec Ideal S10000x32 .f32) (w0 w1 w2 : Vec Ideal S32x64 .f32) (bt : Vec Ideal S1x64 .f32) (W1 : Vec Ideal S64x64 .f32)

/-- Rows turned by `s`: row `r` of the result is the row `s` places before it, counted round. -/
theorem rotate_apply (s : BitVec 32) (x : FVec Ideal S10000x32 .f32) (n q : Fin 10000) (c : Fin 32)
    (hq : (n.val + 10000 - s.toNat % 10000) % 10000 = q.val) :
    dynamicRotate 0 s none x rotates_S10000x32_d0 (ix2 n c) = x (ix2 q c) := by
  unfold dynamicRotate
  refine congrArg x (funext fun b => ?_)
  match b with
  | ⟨0, _⟩ => exact Fin.ext hq
  | ⟨1, _⟩ => rfl

/-- The row-number test of the kernel's masks. -/
theorem row_test (n : Fin 10000) (c : Fin 32) (k : BitVec 32) (y z : EReal) :
    Scalar.select (cmpi .eq (iota .tc S10000x32 32 [0] iota_S10000x32_d0_w32) (broadcast S10000x32 k) (ix2 n c)) y z
      = if n.val = k.toNat then y else z := by
  pointwise
  rw [WordCmp.cmpi_eq_eq_toNat, BitVec.toNat_ofNat, Nat.mod_eq_of_lt (by omega)]
  by_cases h : n.val = k.toNat
  · rw [if_pos h, decide_eq_true h]; rfl
  · rw [if_neg h, decide_eq_false h]; rfl

/-- Each row's predecessor, zeros before the first. -/
def before (x : FVec Ideal S10000x32 .f32) : FVec Ideal S10000x32 .f32 :=
  select (cmpi .eq (iota .tc S10000x32 32 [0] iota_S10000x32_d0_w32) (broadcast S10000x32 0#32)) (broadcast S10000x32 (Scalar.ofBits .f32 0x00000000#32))
    (dynamicRotate 0 1#32 none x rotates_S10000x32_d0)

/-- Each row's successor, zeros after the last. -/
def after (x : FVec Ideal S10000x32 .f32) : FVec Ideal S10000x32 .f32 :=
  select (cmpi .eq (iota .tc S10000x32 32 [0] iota_S10000x32_d0_w32) (broadcast S10000x32 9999#32)) (broadcast S10000x32 (Scalar.ofBits .f32 0x00000000#32))
    (dynamicRotate 0 9999#32 none x rotates_S10000x32_d0)

/-- The predecessors' rows are the neighbours at offset 0. -/
theorem before_apply (x : FVec Ideal S10000x32 .f32) (n : Fin 10000) (c : Fin 32) :
    before x (ix2 n c) = Formula.neighbour (fun n c => x (ix2 n c)) n 0 c := by
  unfold before Formula.neighbour
  refine (row_test n c _ _ _).trans ?_
  by_cases h : n.val = 0
  · rw [if_pos (show n.val = (0#32).toNat from h), dif_neg (by simp [h])]
    exact Ideal.ofBits_zero_f32
  · have h0 : 1 ≤ n.val + (0 : Fin 3).val ∧ n.val + (0 : Fin 3).val ≤ 10000 := ⟨by simp; omega, by simp⟩
    rw [if_neg (show ¬ n.val = (0#32).toNat from h), dif_pos h0]
    exact rotate_apply _ x n ⟨n.val - 1, by omega⟩ c (by rw [show (1#32).toNat = 1 from rfl]; dsimp only; omega)

/-- The successors' rows are the neighbours at offset 2. -/
theorem after_apply (x : FVec Ideal S10000x32 .f32) (n : Fin 10000) (c : Fin 32) :
    after x (ix2 n c) = Formula.neighbour (fun n c => x (ix2 n c)) n 2 c := by
  unfold after Formula.neighbour
  refine (row_test n c _ _ _).trans ?_
  by_cases h : n.val = 9999
  · rw [if_pos (show n.val = (9999#32).toNat from h), dif_neg (by simp [h])]
    exact Ideal.ofBits_zero_f32
  · have h0 : 1 ≤ n.val + (2 : Fin 3).val ∧ n.val + (2 : Fin 3).val ≤ 10000 := ⟨by simp, by first | omega | (simp; omega)⟩
    rw [if_neg (show ¬ n.val = (9999#32).toNat from h), dif_pos h0]
    exact rotate_apply _ x n ⟨n.val + 1, by omega⟩ c (by rw [show (9999#32).toNat = 9999 from rfl]; dsimp only; omega)

/-- The rows themselves are the neighbours at offset 1. -/
theorem here_apply (x : FVec Ideal S10000x32 .f32) (n : Fin 10000) (c : Fin 32) :
    Formula.neighbour (fun n c => x (ix2 n c)) n 1 c = x (ix2 n c) := by
  unfold Formula.neighbour
  rw [dif_pos (show 1 ≤ n.val + (1 : Fin 3).val ∧ n.val + (1 : Fin 3).val ≤ 10000 from ⟨by simp, by show n.val + 1 ≤ 10000; omega⟩)]
  rfl

/-- The kernel's first half over the three shifted inputs `u`, `v`, `y`: the convolution, a maximum with 0, and the product with `W1`. -/
def firstHalf (u v y : FVec Ideal S10000x32 .f32) (w0 w1 w2 : FVec Ideal S32x64 .f32) (bt : FVec Ideal S1x64 .f32) (W1 : FVec Ideal S64x64 .f32) :
    FVec Ideal S10000x64 .f32 :=
  matmul dot_S10000x64_S64x64_S10000x64_1_0_0_1_n_n none
    (maximumf (addf (addf (addf
        (matmul dot_S10000x32_S32x64_S10000x64_1_0_0_1_n_n none u w0 (constant S10000x64 .f32 0x00000000#32))
        (matmul dot_S10000x32_S32x64_S10000x64_1_0_0_1_n_n none v w1 (constant S10000x64 .f32 0x00000000#32)))
        (matmul dot_S10000x32_S32x64_S10000x64_1_0_0_1_n_n none y w2 (constant S10000x64 .f32 0x00000000#32)))
      (broadcastTo S10000x64 bt broadcasts_S1x64_S10000x64)) (broadcast S10000x64 (Scalar.ofBits .f32 0x00000000#32)))
    W1 (constant S10000x64 .f32 0x00000000#32)

/-- `firstHalf` at an entry. -/
theorem firstHalf_apply (u v y : FVec Ideal S10000x32 .f32) (w0 w1 w2 : FVec Ideal S32x64 .f32) (bt : FVec Ideal S1x64 .f32)
    (W1 : FVec Ideal S64x64 .f32) (n : Fin 10000) (k : Fin 64) :
    firstHalf u v y w0 w1 w2 bt W1 (ix2 n k) = ∑ j : Fin 64, max ((∑ c : Fin 32, u (ix2 n c) * w0 (ix2 c j)) + (∑ c : Fin 32, v (ix2 n c) * w1 (ix2 c j))
      + (∑ c : Fin 32, y (ix2 n c) * w2 (ix2 c j)) + bt (ix2 0 j)) 0 * W1 (ix2 j k) := by
  unfold firstHalf
  pointwise

/-- The hidden rows before their bias. -/
theorem pay2_eq : k0_pay2 x w0 w1 w2 bt W1 = firstHalf (before x) x (after x) w0 w1 w2 bt W1 := by
  unfold k0_pay2 firstHalf before after
  simp only [shapeCast_id]

/-- The kernel's second half at an entry: bias, a maximum with 0, and the product with the product of the two matrices. -/
theorem pay1_apply (h : FVec Ideal S10000x64 .f32) (b1 : FVec Ideal S1x64 .f32) (W2 Wf : Vec Ideal S64x64 .f32) (bf : Vec Ideal S1x64 .f32)
   (n : Fin 10000) (l : Fin 64) :
    k0_pay1 h b1 W2 Wf bf (ix2 n l) = (∑ j : Fin 64, max (h (ix2 n j) + b1 (ix2 0 j)) 0 * ∑ k : Fin 64, W2 (ix2 j k) * Wf (ix2 k l)) + bf (ix2 0 l) := by
  unfold k0_pay1
  pointwise

/-- The kernel loads and stores its buffers whole, from offset 0. -/
theorem offsets_zero : (![0, 0] : Fin 2 → Nat) = fun _ => 0 := by
  funext a
  match a with
  | ⟨0, _⟩ => rfl
  | ⟨1, _⟩ => rfl

/-- Entry (n, l) of the block a grid point writes. -/
theorem block_apply (W2 Wf : Vec Ideal S64x64 .f32) (b1 bf : Vec Ideal S1x64 .f32) (n : Fin 10000) (l : Fin 64) :
    out0_10 x w0 w1 w2 W1 W2 Wf bt b1 bf (ix2 n l)
      = (∑ j : Fin 64, Formula.hidden (fun n c => x (ix2 n c)) ![fun c k => w0 (ix2 c k), fun c k => w1 (ix2 c k), fun c k => w2 (ix2 c k)]
          (fun k => bt (ix2 0 k)) (fun j k => W1 (ix2 j k)) (fun k => b1 (ix2 0 k)) n j * ∑ k : Fin 64, W2 (ix2 j k) * Wf (ix2 k l)) + bf (ix2 0 l) := by
  have e : out0_10 x w0 w1 w2 W1 W2 Wf bt b1 bf = k0_pay1 (k0_pay2 x w0 w1 w2 bt W1) (k0_pay3 b1) W2 Wf bf := by
    unfold out0_10
    rw [View.canon_unit_zero offsets_zero]
    simp only [View.ld_unit_zero (S := S10000x32) offsets_zero, View.ld_unit_zero (S := S32x64) offsets_zero, View.ld_unit_zero (S := S1x64) offsets_zero,
      View.ld_unit_zero (S := S64x64) offsets_zero]
  rw [e, pay1_apply, pay2_eq]
  unfold Formula.hidden Formula.convolved
  simp only [firstHalf_apply, before_apply, after_apply, here_apply, k0_pay3, shapeCast_id]
  rfl

end Cert.KernelBlock
-- ==== Proof.KernelValue.lean ====
/- The array that the kernel's run leaves, entry by entry: `Formula.folded` of the arguments.

   Grid point `t` works on batch `t`; the blocks it reads are read off the arguments here, then its block's formula
   (`KernelBlock.block_apply`) is placed in the result array. -/
module

public import proofs.«01_k».proof.Proof.KernelBlock
public import Idealize.ShloMosaic.Lib.Pipeline.ValueKit
public import Idealize.ShloMosaic.Lib.Claim

@[expose] public section

set_option maxRecDepth 16384

noncomputable section

namespace Cert.KernelValue

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- Which block each window shows at point `t`: the rows' and the result's windows block `t`, the others their only block. -/
theorem index_rows : ∀ t : Fin grid0.N, win0_0.index t = ![t.val, 0] ∧ win0_10.index t = ![t.val, 0] := by decide +kernel

theorem index_fixed : ∀ t : Fin grid0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] := by
  decide +kernel

/-- The rows of batch `t`. -/
theorem rows_block (t : Fin cfg0.N) (b : Fin 4) (hb : b.val = t.val) (n : Fin 10000) (k : Fin 32) :
    (iblk m c 0 t : Vec Ideal S10000x32 .f32) (ix2 n k) = (m ((c.tc : Thread nD τ).loc main_arg0) : Vec Ideal S4x12x10000x32 .f32) (ix4 b 11 n k) := by
  unfold iblk
  blk_simp [index_rows]
  have he : (win0_0.blk t).view.emb (ix2 n k) = (ix2 ⟨b.val * 10000 + n.val, by omega⟩ k : S40000x32.Idx) := by blk_ext [index_rows t]
  refine (congrArg (V m c main_v14) he).trans ?_
  entry_read
  pointwise

/-- Tap 0 of the convolution's weights. -/
theorem tap0_block (t : Fin cfg0.N) (j : Fin 32) (k : Fin 64) :
    (iblk m c 1 t : Vec Ideal S32x64 .f32) (ix2 j k) = (m ((c.tc : Thread nD τ).loc main_arg3) : Vec Ideal S64x32x3x1 .f32) (ix4 k j 0 0) := by
  unfold iblk
  blk_simp [index_fixed]
  have he : (win0_1.blk t).view.emb (ix2 j k) = (ix2 j k : S32x64.Idx) := by blk_ext [index_fixed t]
  refine (congrArg (V m c main_v2) he).trans ?_
  entry_read
  pointwise

/-- Tap 1 of the convolution's weights. -/
theorem tap1_block (t : Fin cfg0.N) (j : Fin 32) (k : Fin 64) :
    (iblk m c 2 t : Vec Ideal S32x64 .f32) (ix2 j k) = (m ((c.tc : Thread nD τ).loc main_arg3) : Vec Ideal S64x32x3x1 .f32) (ix4 k j 1 0) := by
  unfold iblk
  blk_simp [index_fixed]
  have he : (win0_2.blk t).view.emb (ix2 j k) = (ix2 j k : S32x64.Idx) := by blk_ext [index_fixed t]
  refine (congrArg (V m c main_v5) he).trans ?_
  entry_read
  pointwise

/-- Tap 2 of the convolution's weights. -/
theorem tap2_block (t : Fin cfg0.N) (j : Fin 32) (k : Fin 64) :
    (iblk m c 3 t : Vec Ideal S32x64 .f32) (ix2 j k) = (m ((c.tc : Thread nD τ).loc main_arg3) : Vec Ideal S64x32x3x1 .f32) (ix4 k j 2 0) := by
  unfold iblk
  blk_simp [index_fixed]
  have he : (win0_3.blk t).view.emb (ix2 j k) = (ix2 j k : S32x64.Idx) := by blk_ext [index_fixed t]
  refine (congrArg (V m c main_v8) he).trans ?_
  entry_read
  pointwise

/-- The first layer's weights. -/
theorem w1_block (t : Fin cfg0.N) (j k : Fin 64) :
    (iblk m c 4 t : Vec Ideal S64x64 .f32) (ix2 j k) = (m ((c.tc : Thread nD τ).loc main_arg5) : Vec Ideal S64x64 .f32) (ix2 j k) := by
  blk_ext [iblk, V, index_fixed t]

/-- The second layer's weights. -/
theorem w2_block (t : Fin cfg0.N) (j k : Fin 64) :
    (iblk m c 5 t : Vec Ideal S64x64 .f32) (ix2 j k) = (m ((c.tc : Thread nD τ).loc main_arg7) : Vec Ideal S64x64 .f32) (ix2 j k) := by
  blk_ext [iblk, V, index_fixed t]

/-- The final weights. -/
theorem wf_block (t : Fin cfg0.N) (j k : Fin 64) :
    (iblk m c 6 t : Vec Ideal S64x64 .f32) (ix2 j k) = (m ((c.tc : Thread nD τ).loc main_arg9) : Vec Ideal S64x64 .f32) (ix2 j k) := by
  blk_ext [iblk, V, index_fixed t]

/-- The convolution's bias. -/
theorem bt_block (t : Fin cfg0.N) (j : Fin 1) (k : Fin 64) :
    (iblk m c 7 t : Vec Ideal S1x64 .f32) (ix2 j k) = (m ((c.tc : Thread nD τ).loc main_arg4) : Vec Ideal S64 .f32) (ix1 k) := by
  unfold iblk
  blk_simp [index_fixed]
  have he : (win0_7.blk t).view.emb (ix2 j k) = (ix2 j k : S1x64.Idx) := by blk_ext [index_fixed t]
  refine (congrArg (V m c main_v15) he).trans ?_
  entry_read
  pointwise

/-- The first layer's bias. -/
theorem b1_block (t : Fin cfg0.N) (j : Fin 1) (k : Fin 64) :
    (iblk m c 8 t : Vec Ideal S1x64 .f32) (ix2 j k) = (m ((c.tc : Thread nD τ).loc main_arg6) : Vec Ideal S64 .f32) (ix1 k) := by
  unfold iblk
  blk_simp [index_fixed]
  have he : (win0_8.blk t).view.emb (ix2 j k) = (ix2 j k : S1x64.Idx) := by blk_ext [index_fixed t]
  refine (congrArg (V m c main_v16) he).trans ?_
  entry_read
  pointwise

/-- A bias `b2` times the matrix `wf`, plus the bias `bf`. -/
def foldedBias (b2 : FVec Ideal S64 .f32) (wf : FVec Ideal S64x64 .f32) (bf : FVec Ideal S64 .f32) (k : Fin 64) : EReal :=
  (∑ i : Fin 64, b2 (ix1 i) * wf (ix2 i k)) + bf (ix1 k)

/-- The second layer's bias times the final weights, plus the final bias. -/
theorem bf_block (t : Fin cfg0.N) (j : Fin 1) (k : Fin 64) :
    (iblk m c 9 t : Vec Ideal S1x64 .f32) (ix2 j k) = foldedBias (m ((c.tc : Thread nD τ).loc main_arg8)) (m ((c.tc : Thread nD τ).loc main_arg9)) (m ((c.tc : Thread nD τ).loc main_arg10)) k := by
  unfold iblk
  blk_simp [index_fixed]
  have he : (win0_9.blk t).view.emb (ix2 j k) = (ix2 j k : S1x64.Idx) := by blk_ext [index_fixed t]
  refine (congrArg (V m c main_v11) he).trans ?_
  entry_read
  unfold foldedBias
  pointwise

/-- Three taps listed are the taps by number. -/
theorem taps_eq (Wt : FVec Ideal S64x32x3x1 .f32) :
    (![fun c k => Wt (ix4 k c 0 0), fun c k => Wt (ix4 k c 1 0), fun c k => Wt (ix4 k c 2 0)] : Fin 3 → Fin 32 → Fin 64 → EReal)
      = fun d c k => Wt (ix4 k c d 0) := by
  funext d
  match d with
  | ⟨0, _⟩ => rfl
  | ⟨1, _⟩ => rfl
  | ⟨2, _⟩ => rfl

/-- The kernel's result as a function of its arguments: batch and node are the quotient and the remainder of the row by 10000. -/
def kernelOut (x : FVec Ideal S4x12x10000x32 .f32) (Wt : FVec Ideal S64x32x3x1 .f32) (bt : FVec Ideal S64 .f32) (W1 : FVec Ideal S64x64 .f32)
    (b1 : FVec Ideal S64 .f32) (W2 : FVec Ideal S64x64 .f32) (b2 : FVec Ideal S64 .f32) (Wf : FVec Ideal S64x64 .f32) (bf : FVec Ideal S64 .f32)
    (b : Fin 4) (n : Fin 10000) (l : Fin 64) : EReal :=
  Formula.folded (fun n c => x (ix4 b 11 n c)) (fun d c k => Wt (ix4 k c d 0)) (fun k => bt (ix1 k)) (fun j k => W1 (ix2 j k)) (fun k => b1 (ix1 k))
    (fun j k => W2 (ix2 j k)) (fun k => b2 (ix1 k)) (fun j k => Wf (ix2 j k)) (fun k => bf (ix1 k)) n l

/-- The array after the run, at node `n` of batch `b`. -/
theorem array_apply (b : Fin 4) (n : Fin 10000) (l : Fin 64) :
    ((dats m 0 c).arrAt 10 cfg0.N : Vec Ideal S40000x64 .f32) (ix2 ⟨b.val * 10000 + n.val, by omega⟩ l)
      = kernelOut (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) b n l := by
  obtain ⟨t, ht⟩ : ∃ t : Fin cfg0.N, t.val = b.val := ⟨⟨b.val, by rw [show cfg0.N = 4 from N_0]; exact b.isLt⟩, rfl⟩
  have hf : (cfg0.win 10).flush t = true := flush0_10 t
  have h := congrFun (Value.blocks10 m c t hf) (ix2 n l)
  rw [Value.flushed10] at h
  have he : (win0_10.blk t).view.emb (ix2 n l) = (ix2 ⟨b.val * 10000 + n.val, by omega⟩ l : S40000x64.Idx) := by blk_ext [index_rows t]
  have h1 : ((dats m 0 c).arrAt 10 cfg0.N : Vec Ideal S40000x64 .f32) (ix2 ⟨b.val * 10000 + n.val, by omega⟩ l)
      = out0_10 (iblk m c 0 t) (iblk m c 1 t) (iblk m c 2 t) (iblk m c 3 t) (iblk m c 4 t) (iblk m c 5 t) (iblk m c 6 t) (iblk m c 7 t) (iblk m c 8 t) (iblk m c 9 t) (ix2 n l) := by
    rw [← he]
    exact h
  rw [h1, KernelBlock.block_apply]
  unfold kernelOut Formula.folded
  simp only [rows_block m c t b ht.symm, tap0_block, tap1_block, tap2_block, w1_block, w2_block, wf_block, bt_block, b1_block, bf_block]
  rw [taps_eq]
  rfl

end Cert.KernelValue
-- ==== Proof.Equation.lean ====
/- The equation of the claim: under the precondition, the array that the kernel's run leaves and the array that the
   reference's run leaves are one and the same.

   Both are read at node `n` of batch `b`: the reference's entry is `Formula.direct`, the kernel's is `Formula.folded`, and the
   precondition makes real every number on which the two orders of multiplication depend (`Formula.direct_eq_folded`). -/
module

public import proofs.«01_k».proof.Defs
public import proofs.«01_k».proof.Proof.Pre
public import proofs.«01_k».proof.Proof.RefValue
public import proofs.«01_k».proof.Proof.KernelValue

@[expose] public section

set_option maxRecDepth 16384

noncomputable section

namespace Cert.Equation

open Cert.KernelIdeal Cert.KernelIdeal.Gen Idealize.ShloMosaic

/-- At every node the reference's function of the arguments is the kernel's. -/
theorem outputs_agree (x : FVec Ideal S4x12x10000x32 .f32) (e : IVec S2x320000 32) (w : FVec Ideal S320000 .f32)
    (Wt : FVec Ideal S64x32x3x1 .f32) (bt : FVec Ideal S64 .f32) (W1 : FVec Ideal S64x64 .f32) (b1 : FVec Ideal S64 .f32)
    (W2 : FVec Ideal S64x64 .f32) (b2 : FVec Ideal S64 .f32) (Wf : FVec Ideal S64x64 .f32) (bf : FVec Ideal S64 .f32)
    (h : Cert.Pre_finite_and_targets_in_range.fn (F := Ideal) x e w Wt bt W1 b1 W2 b2 Wf bf = fun _ => 1#1)
    (b : Fin 4) (n : Fin 10000) (l : Fin 64) :
    RefValue.refOut x e w Wt bt W1 b1 W2 b2 Wf bf (ix2 ⟨b.val * 10000 + n.val, by omega⟩ l)
      = KernelValue.kernelOut x Wt bt W1 b1 W2 b2 Wf bf b n l := by
  obtain ⟨he, hx, hWt, hbt, hW1, hb1, hW2, hWf⟩ := PreRead.read x e w Wt bt W1 b1 W2 b2 Wf bf h
  rw [RefValue.refOut_apply x e he]
  exact Formula.direct_eq_folded _ _ (fun n c => hx b n c) (fun d c k => hWt (ix4 k c d 0)) (fun k => hbt (ix1 k))
    (fun j k => hW1 (ix2 j k)) (fun k => hb1 (ix1 k)) (fun j k => hW2 (ix2 j k)) (fun j k => hWf (ix2 j k)) n l

/-- The kernel's array is the reference's function of the arguments: a row is a node of a batch. -/
theorem array_eq (m : (ℓ : Loc nD τ sig) → Buf (Elt Ideal) ℓ) (c : Dev nD) (h : Cert.Pre_KernelIdeal_finite_and_targets_in_range m) :
    ((dats m 0 c).arrAt 10 cfg0.N : Vec Ideal S40000x64 .f32)
      = RefValue.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  funext i
  obtain ⟨r, l, rfl⟩ : ∃ (r : Fin 40000) (l : Fin 64), i = ix2 r l := ⟨i 0, i 1, (ix2_eta i).symm⟩
  have hq : r.val / 10000 < 4 := by omega
  have hn : r.val % 10000 < 10000 := by omega
  have hr : r = ⟨r.val / 10000 * 10000 + r.val % 10000, by omega⟩ := Fin.ext (by show r.val = r.val / 10000 * 10000 + r.val % 10000; omega)
  rw [hr]
  exact (KernelValue.array_apply m c ⟨_, hq⟩ ⟨_, hn⟩ l).trans (outputs_agree _ _ _ _ _ _ _ _ _ _ _ (h c) ⟨_, hq⟩ ⟨_, hn⟩ l).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_and_targets_in_range
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference ends with its arguments unchanged; it declares no semaphore, so every counter is zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From arguments that satisfy the precondition, the kernel and the reference leave the same array. -/
theorem value : Cert.algebraic_KernelIdeal_ReferenceIdeal_pre_finite_and_targets_in_range := by
  intro m g m' g' hpre hargs
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨h0, h1, h2, h3, h4, h5, h6, h7, h8, h9, h10⟩ := hargs c
  rw [RefValue.res_eq, h0, h1, h2, h3, h4, h5, h6, h7, h8, h9, h10]
  exact (Equation.array_eq m c hpre).symm

/-- Everything the certificate claims. -/
theorem claim : Cert.Claim :=
  ⟨Cert.Kernel.Gen.facts, Cert.KernelIdeal.Gen.facts, Cert.ReferenceIdeal.Gen.facts, Cert.Pre_finite_and_targets_in_range.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, value⟩

end Cert.Proof

end
